-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_first_columns [hPre_first_columns : Cert.Pre_first_columns.Facts] (m : (ℓ : Loc Cert.KernelIdeal.nD Cert.KernelIdeal.τ Cert.KernelIdeal.sig) → Buf (Elt Ideal) ℓ) : Prop :=
  ∀ c : Dev Cert.KernelIdeal.nD,
    (Cert.Pre_first_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_first_columns [hPre_first_columns : Cert.Pre_first_columns.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_first_columns.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_first_columns [hKernelIdeal : Cert.KernelIdeal.Facts] [hPre_first_columns : Cert.Pre_first_columns.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_first_columns m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_first_columns [hReferenceIdeal : Cert.ReferenceIdeal.Facts] [hPre_first_columns : Cert.Pre_first_columns.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_first_columns m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_first_columns [hKernelIdeal : Cert.KernelIdeal.Facts] [hReferenceIdeal : Cert.ReferenceIdeal.Facts] [hPre_first_columns : Cert.Pre_first_columns.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_first_columns m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_first_columns : Cert.Pre_first_columns.Facts),
    quiescent_Kernel (hKernel := hKernel)
    ∧ quiescent_KernelIdeal (hKernelIdeal := hKernelIdeal)
    ∧ quiescent_KernelIdeal_pre_first_columns (hKernelIdeal := hKernelIdeal) (hPre_first_columns := hPre_first_columns)
    ∧ quiescent_ReferenceIdeal (hReferenceIdeal := hReferenceIdeal)
    ∧ quiescent_ReferenceIdeal_pre_first_columns (hReferenceIdeal := hReferenceIdeal) (hPre_first_columns := hPre_first_columns)
    ∧ preserves_Kernel_KernelIdeal
    ∧ algebraic_KernelIdeal_ReferenceIdeal_pre_first_columns (hKernelIdeal := hKernelIdeal) (hReferenceIdeal := hReferenceIdeal) (hPre_first_columns := hPre_first_columns)
-- ==== Pre_first_columns.lean ====
abbrev S65536x512 : Shape := ⟨2, ![65536, 512]⟩
abbrev S64 : Shape := ⟨1, ![64]⟩
abbrev S_ : Shape := ⟨0, ![]⟩

class Facts : Prop where
  reducesTo_S64_S_d0 : S64.ReducesTo [0] S_
  h_S_ : 0 < S_.numel
  bcast_S_S64 : S_.BroadcastsInDim S64 (![] : Fin 0 → Fin S64.rank)

variable [Facts]

def fn {F : FTy → Type} [FloatOps F] (main_arg0 : FVec F S65536x512 .f32) (main_arg1 : IVec S64 32) (main_arg2 : FVec F S64 .f32) (main_arg3 : FVec F S64 .f32) : IVec S_ 1 :=
  let main_v0 : IVec S64 32 := iotaInDim S64 32 0
  let main_v1 : IVec S64 1 := cmpi .eq main_arg1 main_v0
  let main_c : IVec S_ 1 := constantI S_ 1 1#1
  let main_v2 : IVec S_ 1 := (fun x v => Host.reduce IntOp.andi x v reducesTo_S64_S_d0 h_S_) main_v1 main_c
  let main_cst : FVec F S_ .f32 := constant S_ .f32 0x00000000#32
  let main_v3 : FVec F S64 .f32 := broadcastInDim S64 ![] bcast_S_S64 main_cst
  let main_v4 : IVec S64 1 := cmpf .une main_arg3 main_v3
  let main_c_0 : IVec S_ 1 := constantI S_ 1 1#1
  let main_v5 : IVec S_ 1 := (fun x v => Host.reduce IntOp.andi x v reducesTo_S64_S_d0 h_S_) main_v4 main_c_0
  let main_v6 : IVec S_ 1 := andi main_v2 main_v5
  main_v6
-- ==== Kernel.lean ====
abbrev S65536x512 : Shape := ⟨2, ![65536, 512]⟩
abbrev S64 : Shape := ⟨1, ![64]⟩
abbrev S32x512 : Shape := ⟨2, ![32, 512]⟩
abbrev S_ : Shape := ⟨0, ![]⟩
abbrev S16 : Shape := ⟨1, ![16]⟩
abbrev S1x16 : Shape := ⟨2, ![1, 16]⟩

abbrev nBuf : Table → Nat
  | .hbm => 5
  | .local .scVector .vmem => 7
  | _ => 0

abbrev bufTy : (tb : Table) → Fin (nBuf tb) → BufTy
  | .hbm, ⟨0, _⟩ => ⟨S65536x512, .f32⟩
  | .hbm, ⟨1, _⟩ => ⟨S64, .i32⟩
  | .hbm, ⟨2, _⟩ => ⟨S64, .f32⟩
  | .hbm, ⟨3, _⟩ => ⟨S64, .f32⟩
  | .hbm, ⟨4, _⟩ => ⟨S65536x512, .f32⟩
  | .local .scVector .vmem, ⟨0, _⟩ => ⟨S32x512, .f32⟩
  | .local .scVector .vmem, ⟨1, _⟩ => ⟨S32x512, .f32⟩
  | .local .scVector .vmem, ⟨2, _⟩ => ⟨S32x512, .f32⟩
  | .local .scVector .vmem, ⟨3, _⟩ => ⟨S32x512, .f32⟩
  | .local .scVector .vmem, ⟨4, _⟩ => ⟨S64, .i32⟩
  | .local .scVector .vmem, ⟨5, _⟩ => ⟨S64, .f32⟩
  | .local .scVector .vmem, ⟨6, _⟩ => ⟨S64, .f32⟩
  | _, _ => ⟨S65536x512, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_v0_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let v23 : BitVec 32 := Scalar.addi v2 c0_i32
  let c0_i32_11 : BitVec 32 := 0#32
  ![v23.toNat, 0]
def k0_off1_at (r : Fin 4) : BitVec 32 :=
  if r.val < 2 then
    if r.val < 1 then
      0#32
    else
      32#32
  else
    if r.val < 3 then
      1984#32
    else
      2016#32
@[reducible] def k0_t1_loop : Scf.Loop 32 :=
  let c0_i32_16 : BitVec 32 := 0#32
  let c16_i32 : BitVec 32 := 16#32
  let v29 : BitVec 32 := Scalar.addi c0_i32_16 c16_i32
  let c1_i32 : BitVec 32 := 1#32
  ⟨c0_i32_16, v29, c1_i32⟩
def k0_off2 (i : grid0.Coords) (k0_t1 : Fin k0_t1_loop.trips) (c0_i32_22 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_16 : BitVec 32 := 0#32
  let c1_i32 : BitVec 32 := 1#32
  let arg22 : BitVec 32 := Scf.iv c0_i32_16 c1_i32 k0_t1
  let c4_i32 : BitVec 32 := 4#32
  let v36 : BitVec 32 := Scalar.muli arg22 c4_i32
  let v37 : BitVec 32 := Scalar.addi v36 c0_i32_22
  let c32_i32_23 : BitVec 32 := 32#32
  let v38 : BitVec 32 := Scalar.muli v37 c32_i32_23
  let v39 : BitVec 32 := Scalar.addi v2 v38
  let c0_i32_24 : BitVec 32 := 0#32
  ![v39.toNat, 0]
def k0_cond1 (k0_t1 : Fin k0_t1_loop.trips) : BitVec 1 :=
  let c0_i32_16 : BitVec 32 := 0#32
  let c1_i32 : BitVec 32 := 1#32
  let arg22 : BitVec 32 := Scf.iv c0_i32_16 c1_i32 k0_t1
  let c4_i32 : BitVec 32 := 4#32
  let v36 : BitVec 32 := Scalar.muli arg22 c4_i32
  let c0_i32_22 : BitVec 32 := 0#32
  let v37 : BitVec 32 := Scalar.addi v36 c0_i32_22
  let c2_i32_26 : BitVec 32 := 2#32
  let v42 : BitVec 32 := Scalar.addi v37 c2_i32_26
  let c4_i32_27 : BitVec 32 := 4#32
  let v43 : BitVec 32 := Scalar.subi v42 c4_i32_27
  let c0_i32_28 : BitVec 32 := 0#32
  let v44 : BitVec 1 := Scalar.cmpi .sge v43 c0_i32_28
  let v45 : BitVec 32 := Scalar.extui v44
  let c0_i32_29 : BitVec 32 := 0#32
  let v46 : BitVec 1 := Scalar.cmpi .ne v45 c0_i32_29
  v46

def k0_off3 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_16 : BitVec 32 := 0#32
  let c1_i32 : BitVec 32 := 1#32
  let arg22 : BitVec 32 := Scf.iv c0_i32_16 c1_i32 k0_t1
  let c4_i32 : BitVec 32 := 4#32
  let v36 : BitVec 32 := Scalar.muli arg22 c4_i32
  let c0_i32_22 : BitVec 32 := 0#32
  let v37 : BitVec 32 := Scalar.addi v36 c0_i32_22
  let c2_i32_99 : BitVec 32 := 2#32
  let v116 : BitVec 32 := Scalar.addi v37 c2_i32_99
  let c4_i32_100 : BitVec 32 := 4#32
  let v117 : BitVec 32 := Scalar.subi v116 c4_i32_100
  let c32_i32_101 : BitVec 32 := 32#32
  let v118 : BitVec 32 := Scalar.muli v117 c32_i32_101
  let v119 : BitVec 32 := Scalar.addi v2 v118
  let c0_i32_102 : BitVec 32 := 0#32
  ![v119.toNat, 0]
def k0_cond2 (k0_t1 : Fin k0_t1_loop.trips) : BitVec 1 :=
  let c0_i32_16 : BitVec 32 := 0#32
  let c1_i32 : BitVec 32 := 1#32
  let arg22 : BitVec 32 := Scf.iv c0_i32_16 c1_i32 k0_t1
  let c4_i32 : BitVec 32 := 4#32
  let v36 : BitVec 32 := Scalar.muli arg22 c4_i32
  let c0_i32_22 : BitVec 32 := 0#32
  let v37 : BitVec 32 := Scalar.addi v36 c0_i32_22
  let c2_i32_30 : BitVec 32 := 2#32
  let v47 : BitVec 32 := Scalar.addi v37 c2_i32_30
  let c64_i32 : BitVec 32 := 64#32
  let v48 : BitVec 1 := Scalar.cmpi .slt v47 c64_i32
  let v49 : BitVec 32 := Scalar.extui v48
  let c0_i32_31 : BitVec 32 := 0#32
  let v50 : BitVec 1 := Scalar.cmpi .ne v49 c0_i32_31
  v50

def k0_off4 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_16 : BitVec 32 := 0#32
  let c1_i32 : BitVec 32 := 1#32
  let arg22 : BitVec 32 := Scf.iv c0_i32_16 c1_i32 k0_t1
  let c4_i32 : BitVec 32 := 4#32
  let v36 : BitVec 32 := Scalar.muli arg22 c4_i32
  let c0_i32_22 : BitVec 32 := 0#32
  let v37 : BitVec 32 := Scalar.addi v36 c0_i32_22
  let c2_i32_99 : BitVec 32 := 2#32
  let v116 : BitVec 32 := Scalar.addi v37 c2_i32_99
  let c32_i32_100 : BitVec 32 := 32#32
  let v117 : BitVec 32 := Scalar.muli v116 c32_i32_100
  let v118 : BitVec 32 := Scalar.addi v2 v117
  let c0_i32_101 : BitVec 32 := 0#32
  ![v118.toNat, 0]
@[reducible] def k0_t2_loop : Scf.Loop 32 :=
  let c0_i32_33 : BitVec 32 := 0#32
  let c32_i32_34 : BitVec 32 := 32#32
  let v51 : BitVec 32 := Scalar.addi c0_i32_33 c32_i32_34
  let c1_i32_35 : BitVec 32 := 1#32
  ⟨c0_i32_33, v51, c1_i32_35⟩
def k0_off5 (k0_t2 : Fin k0_t2_loop.trips) : Fin 2 → Nat :=
  let c0_i32_33 : BitVec 32 := 0#32
  let c1_i32_35 : BitVec 32 := 1#32
  let arg23 : BitVec 32 := Scf.iv c0_i32_33 c1_i32_35 k0_t2
  let v116 : Index := Scalar.indexCast arg23
  let c0_99 : Index := 0#32
  ![v116.toNat, 0]
def k0_off6 (k0_t2 : Fin k0_t2_loop.trips) : Fin 2 → Nat :=
  let c0_i32_33 : BitVec 32 := 0#32
  let c1_i32_35 : BitVec 32 := 1#32
  let arg23 : BitVec 32 := Scf.iv c0_i32_33 c1_i32_35 k0_t2
  let v122 : Index := Scalar.indexCast arg23
  let c16_101 : Index := 16#32
  ![v122.toNat, 16]
def k0_off7 (k0_t2 : Fin k0_t2_loop.trips) : Fin 2 → Nat :=
  let c0_i32_33 : BitVec 32 := 0#32
  let c1_i32_35 : BitVec 32 := 1#32
  let arg23 : BitVec 32 := Scf.iv c0_i32_33 c1_i32_35 k0_t2
  let v128 : Index := Scalar.indexCast arg23
  let c32_103 : Index := 32#32
  ![v128.toNat, 32]
def k0_off8 (k0_t2 : Fin k0_t2_loop.trips) : Fin 2 → Nat :=
  let c0_i32_33 : BitVec 32 := 0#32
  let c1_i32_35 : BitVec 32 := 1#32
  let arg23 : BitVec 32 := Scf.iv c0_i32_33 c1_i32_35 k0_t2
  let v134 : Index := Scalar.indexCast arg23
  let c48_105 : Index := 48#32
  ![v134.toNat, 48]
def k0_cond3 (k0_t1 : Fin k0_t1_loop.trips) : BitVec 1 :=
  let c0_i32_16 : BitVec 32 := 0#32
  let c1_i32 : BitVec 32 := 1#32
  let arg22 : BitVec 32 := Scf.iv c0_i32_16 c1_i32 k0_t1
  let c4_i32_40 : BitVec 32 := 4#32
  let v56 : BitVec 32 := Scalar.muli arg22 c4_i32_40
  let c1_i32_41 : BitVec 32 := 1#32
  let v57 : BitVec 32 := Scalar.addi v56 c1_i32_41
  let c2_i32_45 : BitVec 32 := 2#32
  let v62 : BitVec 32 := Scalar.addi v57 c2_i32_45
  let c4_i32_46 : BitVec 32 := 4#32
  let v63 : BitVec 32 := Scalar.subi v62 c4_i32_46
  let c0_i32_47 : BitVec 32 := 0#32
  let v64 : BitVec 1 := Scalar.cmpi .sge v63 c0_i32_47
  let v65 : BitVec 32 := Scalar.extui v64
  let c0_i32_48 : BitVec 32 := 0#32
  let v66 : BitVec 1 := Scalar.cmpi .ne v65 c0_i32_48
  v66

def k0_off9 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_16 : BitVec 32 := 0#32
  let c1_i32 : BitVec 32 := 1#32
  let arg22 : BitVec 32 := Scf.iv c0_i32_16 c1_i32 k0_t1
  let c4_i32_40 : BitVec 32 := 4#32
  let v56 : BitVec 32 := Scalar.muli arg22 c4_i32_40
  let c1_i32_41 : BitVec 32 := 1#32
  let v57 : BitVec 32 := Scalar.addi v56 c1_i32_41
  let c2_i32_99 : BitVec 32 := 2#32
  let v116 : BitVec 32 := Scalar.addi v57 c2_i32_99
  let c4_i32_100 : BitVec 32 := 4#32
  let v117 : BitVec 32 := Scalar.subi v116 c4_i32_100
  let c32_i32_101 : BitVec 32 := 32#32
  let v118 : BitVec 32 := Scalar.muli v117 c32_i32_101
  let v119 : BitVec 32 := Scalar.addi v2 v118
  let c0_i32_102 : BitVec 32 := 0#32
  ![v119.toNat, 0]
def k0_cond4 (k0_t1 : Fin k0_t1_loop.trips) : BitVec 1 :=
  let c0_i32_16 : BitVec 32 := 0#32
  let c1_i32 : BitVec 32 := 1#32
  let arg22 : BitVec 32 := Scf.iv c0_i32_16 c1_i32 k0_t1
  let c4_i32_40 : BitVec 32 := 4#32
  let v56 : BitVec 32 := Scalar.muli arg22 c4_i32_40
  let c1_i32_41 : BitVec 32 := 1#32
  let v57 : BitVec 32 := Scalar.addi v56 c1_i32_41
  let c2_i32_49 : BitVec 32 := 2#32
  let v67 : BitVec 32 := Scalar.addi v57 c2_i32_49
  let c64_i32_50 : BitVec 32 := 64#32
  let v68 : BitVec 1 := Scalar.cmpi .slt v67 c64_i32_50
  let v69 : BitVec 32 := Scalar.extui v68
  let c0_i32_51 : BitVec 32 := 0#32
  let v70 : BitVec 1 := Scalar.cmpi .ne v69 c0_i32_51
  v70

def k0_off10 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_16 : BitVec 32 := 0#32
  let c1_i32 : BitVec 32 := 1#32
  let arg22 : BitVec 32 := Scf.iv c0_i32_16 c1_i32 k0_t1
  let c4_i32_40 : BitVec 32 := 4#32
  let v56 : BitVec 32 := Scalar.muli arg22 c4_i32_40
  let c1_i32_41 : BitVec 32 := 1#32
  let v57 : BitVec 32 := Scalar.addi v56 c1_i32_41
  let c2_i32_99 : BitVec 32 := 2#32
  let v116 : BitVec 32 := Scalar.addi v57 c2_i32_99
  let c32_i32_100 : BitVec 32 := 32#32
  let v117 : BitVec 32 := Scalar.muli v116 c32_i32_100
  let v118 : BitVec 32 := Scalar.addi v2 v117
  let c0_i32_101 : BitVec 32 := 0#32
  ![v118.toNat, 0]
@[reducible] def k0_t3_loop : Scf.Loop 32 :=
  let c0_i32_53 : BitVec 32 := 0#32
  let c32_i32_54 : BitVec 32 := 32#32
  let v71 : BitVec 32 := Scalar.addi c0_i32_53 c32_i32_54
  let c1_i32_55 : BitVec 32 := 1#32
  ⟨c0_i32_53, v71, c1_i32_55⟩
def k0_off11 (k0_t3 : Fin k0_t3_loop.trips) : Fin 2 → Nat :=
  let c0_i32_53 : BitVec 32 := 0#32
  let c1_i32_55 : BitVec 32 := 1#32
  let arg23 : BitVec 32 := Scf.iv c0_i32_53 c1_i32_55 k0_t3
  let v116 : Index := Scalar.indexCast arg23
  let c0_99 : Index := 0#32
  ![v116.toNat, 0]
def k0_off12 (k0_t3 : Fin k0_t3_loop.trips) : Fin 2 → Nat :=
  let c0_i32_53 : BitVec 32 := 0#32
  let c1_i32_55 : BitVec 32 := 1#32
  let arg23 : BitVec 32 := Scf.iv c0_i32_53 c1_i32_55 k0_t3
  let v122 : Index := Scalar.indexCast arg23
  let c16_101 : Index := 16#32
  ![v122.toNat, 16]
def k0_off13 (k0_t3 : Fin k0_t3_loop.trips) : Fin 2 → Nat :=
  let c0_i32_53 : BitVec 32 := 0#32
  let c1_i32_55 : BitVec 32 := 1#32
  let arg23 : BitVec 32 := Scf.iv c0_i32_53 c1_i32_55 k0_t3
  let v128 : Index := Scalar.indexCast arg23
  let c32_103 : Index := 32#32
  ![v128.toNat, 32]
def k0_off14 (k0_t3 : Fin k0_t3_loop.trips) : Fin 2 → Nat :=
  let c0_i32_53 : BitVec 32 := 0#32
  let c1_i32_55 : BitVec 32 := 1#32
  let arg23 : BitVec 32 := Scf.iv c0_i32_53 c1_i32_55 k0_t3
  let v134 : Index := Scalar.indexCast arg23
  let c48_105 : Index := 48#32
  ![v134.toNat, 48]
def k0_cond5 (k0_t1 : Fin k0_t1_loop.trips) : BitVec 1 :=
  let c0_i32_16 : BitVec 32 := 0#32
  let c1_i32 : BitVec 32 := 1#32
  let arg22 : BitVec 32 := Scf.iv c0_i32_16 c1_i32 k0_t1
  let c4_i32_60 : BitVec 32 := 4#32
  let v76 : BitVec 32 := Scalar.muli arg22 c4_i32_60
  let c2_i32_61 : BitVec 32 := 2#32
  let v77 : BitVec 32 := Scalar.addi v76 c2_i32_61
  let c2_i32_65 : BitVec 32 := 2#32
  let v82 : BitVec 32 := Scalar.addi v77 c2_i32_65
  let c4_i32_66 : BitVec 32 := 4#32
  let v83 : BitVec 32 := Scalar.subi v82 c4_i32_66
  let c0_i32_67 : BitVec 32 := 0#32
  let v84 : BitVec 1 := Scalar.cmpi .sge v83 c0_i32_67
  let v85 : BitVec 32 := Scalar.extui v84
  let c0_i32_68 : BitVec 32 := 0#32
  let v86 : BitVec 1 := Scalar.cmpi .ne v85 c0_i32_68
  v86

def k0_off15 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_16 : BitVec 32 := 0#32
  let c1_i32 : BitVec 32 := 1#32
  let arg22 : BitVec 32 := Scf.iv c0_i32_16 c1_i32 k0_t1
  let c4_i32_60 : BitVec 32 := 4#32
  let v76 : BitVec 32 := Scalar.muli arg22 c4_i32_60
  let c2_i32_61 : BitVec 32 := 2#32
  let v77 : BitVec 32 := Scalar.addi v76 c2_i32_61
  let c2_i32_99 : BitVec 32 := 2#32
  let v116 : BitVec 32 := Scalar.addi v77 c2_i32_99
  let c4_i32_100 : BitVec 32 := 4#32
  let v117 : BitVec 32 := Scalar.subi v116 c4_i32_100
  let c32_i32_101 : BitVec 32 := 32#32
  let v118 : BitVec 32 := Scalar.muli v117 c32_i32_101
  let v119 : BitVec 32 := Scalar.addi v2 v118
  let c0_i32_102 : BitVec 32 := 0#32
  ![v119.toNat, 0]
def k0_cond6 (k0_t1 : Fin k0_t1_loop.trips) : BitVec 1 :=
  let c0_i32_16 : BitVec 32 := 0#32
  let c1_i32 : BitVec 32 := 1#32
  let arg22 : BitVec 32 := Scf.iv c0_i32_16 c1_i32 k0_t1
  let c4_i32_60 : BitVec 32 := 4#32
  let v76 : BitVec 32 := Scalar.muli arg22 c4_i32_60
  let c2_i32_61 : BitVec 32 := 2#32
  let v77 : BitVec 32 := Scalar.addi v76 c2_i32_61
  let c2_i32_69 : BitVec 32 := 2#32
  let v87 : BitVec 32 := Scalar.addi v77 c2_i32_69
  let c64_i32_70 : BitVec 32 := 64#32
  let v88 : BitVec 1 := Scalar.cmpi .slt v87 c64_i32_70
  let v89 : BitVec 32 := Scalar.extui v88
  let c0_i32_71 : BitVec 32 := 0#32
  let v90 : BitVec 1 := Scalar.cmpi .ne v89 c0_i32_71
  v90

def k0_off16 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_16 : BitVec 32 := 0#32
  let c1_i32 : BitVec 32 := 1#32
  let arg22 : BitVec 32 := Scf.iv c0_i32_16 c1_i32 k0_t1
  let c4_i32_60 : BitVec 32 := 4#32
  let v76 : BitVec 32 := Scalar.muli arg22 c4_i32_60
  let c2_i32_61 : BitVec 32 := 2#32
  let v77 : BitVec 32 := Scalar.addi v76 c2_i32_61
  let c2_i32_99 : BitVec 32 := 2#32
  let v116 : BitVec 32 := Scalar.addi v77 c2_i32_99
  let c32_i32_100 : BitVec 32 := 32#32
  let v117 : BitVec 32 := Scalar.muli v116 c32_i32_100
  let v118 : BitVec 32 := Scalar.addi v2 v117
  let c0_i32_101 : BitVec 32 := 0#32
  ![v118.toNat, 0]
@[reducible] def k0_t4_loop : Scf.Loop 32 :=
  let c0_i32_73 : BitVec 32 := 0#32
  let c32_i32_74 : BitVec 32 := 32#32
  let v91 : BitVec 32 := Scalar.addi c0_i32_73 c32_i32_74
  let c1_i32_75 : BitVec 32 := 1#32
  ⟨c0_i32_73, v91, c1_i32_75⟩
def k0_off17 (k0_t4 : Fin k0_t4_loop.trips) : Fin 2 → Nat :=
  let c0_i32_73 : BitVec 32 := 0#32
  let c1_i32_75 : BitVec 32 := 1#32
  let arg23 : BitVec 32 := Scf.iv c0_i32_73 c1_i32_75 k0_t4
  let v116 : Index := Scalar.indexCast arg23
  let c0_99 : Index := 0#32
  ![v116.toNat, 0]
def k0_off18 (k0_t4 : Fin k0_t4_loop.trips) : Fin 2 → Nat :=
  let c0_i32_73 : BitVec 32 := 0#32
  let c1_i32_75 : BitVec 32 := 1#32
  let arg23 : BitVec 32 := Scf.iv c0_i32_73 c1_i32_75 k0_t4
  let v122 : Index := Scalar.indexCast arg23
  let c16_101 : Index := 16#32
  ![v122.toNat, 16]
def k0_off19 (k0_t4 : Fin k0_t4_loop.trips) : Fin 2 → Nat :=
  let c0_i32_73 : BitVec 32 := 0#32
  let c1_i32_75 : BitVec 32 := 1#32
  let arg23 : BitVec 32 := Scf.iv c0_i32_73 c1_i32_75 k0_t4
  let v128 : Index := Scalar.indexCast arg23
  let c32_103 : Index := 32#32
  ![v128.toNat, 32]
def k0_off20 (k0_t4 : Fin k0_t4_loop.trips) : Fin 2 → Nat :=
  let c0_i32_73 : BitVec 32 := 0#32
  let c1_i32_75 : BitVec 32 := 1#32
  let arg23 : BitVec 32 := Scf.iv c0_i32_73 c1_i32_75 k0_t4
  let v134 : Index := Scalar.indexCast arg23
  let c48_105 : Index := 48#32
  ![v134.toNat, 48]
def k0_cond7 (k0_t1 : Fin k0_t1_loop.trips) : BitVec 1 :=
  let c0_i32_16 : BitVec 32 := 0#32
  let c1_i32 : BitVec 32 := 1#32
  let arg22 : BitVec 32 := Scf.iv c0_i32_16 c1_i32 k0_t1
  let c4_i32_80 : BitVec 32 := 4#32
  let v96 : BitVec 32 := Scalar.muli arg22 c4_i32_80
  let c3_i32 : BitVec 32 := 3#32
  let v97 : BitVec 32 := Scalar.addi v96 c3_i32
  let c2_i32_84 : BitVec 32 := 2#32
  let v102 : BitVec 32 := Scalar.addi v97 c2_i32_84
  let c4_i32_85 : BitVec 32 := 4#32
  let v103 : BitVec 32 := Scalar.subi v102 c4_i32_85
  let c0_i32_86 : BitVec 32 := 0#32
  let v104 : BitVec 1 := Scalar.cmpi .sge v103 c0_i32_86
  let v105 : BitVec 32 := Scalar.extui v104
  let c0_i32_87 : BitVec 32 := 0#32
  let v106 : BitVec 1 := Scalar.cmpi .ne v105 c0_i32_87
  v106

def k0_off21 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_16 : BitVec 32 := 0#32
  let c1_i32 : BitVec 32 := 1#32
  let arg22 : BitVec 32 := Scf.iv c0_i32_16 c1_i32 k0_t1
  let c4_i32_80 : BitVec 32 := 4#32
  let v96 : BitVec 32 := Scalar.muli arg22 c4_i32_80
  let c3_i32 : BitVec 32 := 3#32
  let v97 : BitVec 32 := Scalar.addi v96 c3_i32
  let c2_i32_99 : BitVec 32 := 2#32
  let v116 : BitVec 32 := Scalar.addi v97 c2_i32_99
  let c4_i32_100 : BitVec 32 := 4#32
  let v117 : BitVec 32 := Scalar.subi v116 c4_i32_100
  let c32_i32_101 : BitVec 32 := 32#32
  let v118 : BitVec 32 := Scalar.muli v117 c32_i32_101
  let v119 : BitVec 32 := Scalar.addi v2 v118
  let c0_i32_102 : BitVec 32 := 0#32
  ![v119.toNat, 0]
def k0_cond8 (k0_t1 : Fin k0_t1_loop.trips) : BitVec 1 :=
  let c0_i32_16 : BitVec 32 := 0#32
  let c1_i32 : BitVec 32 := 1#32
  let arg22 : BitVec 32 := Scf.iv c0_i32_16 c1_i32 k0_t1
  let c4_i32_80 : BitVec 32 := 4#32
  let v96 : BitVec 32 := Scalar.muli arg22 c4_i32_80
  let c3_i32 : BitVec 32 := 3#32
  let v97 : BitVec 32 := Scalar.addi v96 c3_i32
  let c2_i32_88 : BitVec 32 := 2#32
  let v107 : BitVec 32 := Scalar.addi v97 c2_i32_88
  let c64_i32_89 : BitVec 32 := 64#32
  let v108 : BitVec 1 := Scalar.cmpi .slt v107 c64_i32_89
  let v109 : BitVec 32 := Scalar.extui v108
  let c0_i32_90 : BitVec 32 := 0#32
  let v110 : BitVec 1 := Scalar.cmpi .ne v109 c0_i32_90
  v110

def k0_off22 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_16 : BitVec 32 := 0#32
  let c1_i32 : BitVec 32 := 1#32
  let arg22 : BitVec 32 := Scf.iv c0_i32_16 c1_i32 k0_t1
  let c4_i32_80 : BitVec 32 := 4#32
  let v96 : BitVec 32 := Scalar.muli arg22 c4_i32_80
  let c3_i32 : BitVec 32 := 3#32
  let v97 : BitVec 32 := Scalar.addi v96 c3_i32
  let c2_i32_99 : BitVec 32 := 2#32
  let v116 : BitVec 32 := Scalar.addi v97 c2_i32_99
  let c32_i32_100 : BitVec 32 := 32#32
  let v117 : BitVec 32 := Scalar.muli v116 c32_i32_100
  let v118 : BitVec 32 := Scalar.addi v2 v117
  let c0_i32_101 : BitVec 32 := 0#32
  ![v118.toNat, 0]
@[reducible] def k0_t5_loop : Scf.Loop 32 :=
  let c0_i32_92 : BitVec 32 := 0#32
  let c32_i32_93 : BitVec 32 := 32#32
  let v111 : BitVec 32 := Scalar.addi c0_i32_92 c32_i32_93
  let c1_i32_94 : BitVec 32 := 1#32
  ⟨c0_i32_92, v111, c1_i32_94⟩
def k0_off23 (k0_t5 : Fin k0_t5_loop.trips) : Fin 2 → Nat :=
  let c0_i32_92 : BitVec 32 := 0#32
  let c1_i32_94 : BitVec 32 := 1#32
  let arg23 : BitVec 32 := Scf.iv c0_i32_92 c1_i32_94 k0_t5
  let v116 : Index := Scalar.indexCast arg23
  let c0_99 : Index := 0#32
  ![v116.toNat, 0]
def k0_off24 (k0_t5 : Fin k0_t5_loop.trips) : Fin 2 → Nat :=
  let c0_i32_92 : BitVec 32 := 0#32
  let c1_i32_94 : BitVec 32 := 1#32
  let arg23 : BitVec 32 := Scf.iv c0_i32_92 c1_i32_94 k0_t5
  let v122 : Index := Scalar.indexCast arg23
  let c16_101 : Index := 16#32
  ![v122.toNat, 16]
def k0_off25 (k0_t5 : Fin k0_t5_loop.trips) : Fin 2 → Nat :=
  let c0_i32_92 : BitVec 32 := 0#32
  let c1_i32_94 : BitVec 32 := 1#32
  let arg23 : BitVec 32 := Scf.iv c0_i32_92 c1_i32_94 k0_t5
  let v128 : Index := Scalar.indexCast arg23
  let c32_103 : Index := 32#32
  ![v128.toNat, 32]
def k0_off26 (k0_t5 : Fin k0_t5_loop.trips) : Fin 2 → Nat :=
  let c0_i32_92 : BitVec 32 := 0#32
  let c1_i32_94 : BitVec 32 := 1#32
  let arg23 : BitVec 32 := Scf.iv c0_i32_92 c1_i32_94 k0_t5
  let v134 : Index := Scalar.indexCast arg23
  let c48_105 : Index := 48#32
  ![v134.toNat, 48]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S65536x512 : Shape := ⟨2, ![65536, 512]⟩
abbrev S64 : Shape := ⟨1, ![64]⟩
abbrev S_ : Shape := ⟨0, ![]⟩
abbrev S64x1 : Shape := ⟨2, ![64, 1]⟩
abbrev S1 : Shape := ⟨1, ![1]⟩
abbrev S1x1 : Shape := ⟨2, ![1, 1]⟩
abbrev S65536x64 : Shape := ⟨2, ![65536, 64]⟩
abbrev S1x64 : Shape := ⟨2, ![1, 64]⟩

abbrev nBuf : Space → Nat
  | .hbm => 42
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S64, .i32⟩
  | .hbm, ⟨2, _⟩ => ⟨S64, .f32⟩
  | .hbm, ⟨3, _⟩ => ⟨S64, .f32⟩
  | .hbm, ⟨4, _⟩ => ⟨S_, .i32⟩
  | .hbm, ⟨5, _⟩ => ⟨S64, .i32⟩
  | .hbm, ⟨6, _⟩ => ⟨S64, .i1⟩
  | .hbm, ⟨7, _⟩ => ⟨S_, .i32⟩
  | .hbm, ⟨8, _⟩ => ⟨S64, .i32⟩
  | .hbm, ⟨9, _⟩ => ⟨S64, .i32⟩
  | .hbm, ⟨10, _⟩ => ⟨S64, .i32⟩
  | .hbm, ⟨11, _⟩ => ⟨S64x1, .i32⟩
  | .hbm, ⟨12, _⟩ => ⟨S1, .i32⟩
  | .hbm, ⟨13, _⟩ => ⟨S_, .i32⟩
  | .hbm, ⟨14, _⟩ => ⟨S64x1, .i32⟩
  | .hbm, ⟨15, _⟩ => ⟨S64x1, .i1⟩
  | .hbm, ⟨16, _⟩ => ⟨S1x1, .i32⟩
  | .hbm, ⟨17, _⟩ => ⟨S64x1, .i32⟩
  | .hbm, ⟨18, _⟩ => ⟨S64x1, .i1⟩
  | .hbm, ⟨19, _⟩ => ⟨S64x1, .i1⟩
  | .hbm, ⟨20, _⟩ => ⟨S_, .i1⟩
  | .hbm, ⟨21, _⟩ => ⟨S64, .i1⟩
  | .hbm, ⟨22, _⟩ => ⟨S65536x64, .f32⟩
  | .hbm, ⟨23, _⟩ => ⟨S65536x64, .i1⟩
  | .hbm, ⟨24, _⟩ => ⟨S_, .f32⟩
  | .hbm, ⟨25, _⟩ => ⟨S65536x64, .f32⟩
  | .hbm, ⟨26, _⟩ => ⟨S65536x64, .f32⟩
  | .hbm, ⟨27, _⟩ => ⟨S1x64, .f32⟩
  | .hbm, ⟨28, _⟩ => ⟨S65536x64, .f32⟩
  | .hbm, ⟨29, _⟩ => ⟨S65536x64, .f32⟩
  | .hbm, ⟨30, _⟩ => ⟨S1x64, .f32⟩
  | .hbm, ⟨31, _⟩ => ⟨S65536x64, .f32⟩
  | .hbm, ⟨32, _⟩ => ⟨S65536x64, .f32⟩
  | .hbm, ⟨33, _⟩ => ⟨S_, .i32⟩
  | .hbm, ⟨34, _⟩ => ⟨S64, .i32⟩
  | .hbm, ⟨35, _⟩ => ⟨S64, .i1⟩
  | .hbm, ⟨36, _⟩ => ⟨S_, .i32⟩
  | .hbm, ⟨37, _⟩ => ⟨S64, .i32⟩
  | .hbm, ⟨38, _⟩ => ⟨S64, .i32⟩
  | .hbm, ⟨39, _⟩ => ⟨S64, .i32⟩
  | .hbm, ⟨40, _⟩ => ⟨S64x1, .i32⟩
  | .hbm, ⟨41, _⟩ => ⟨S65536x512, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_c : Ref sig .tc := ⟨.hbm, 33, rfl⟩
abbrev main_v7 : Ref sig .tc := ⟨.hbm, 34, rfl⟩
abbrev main_v8 : Ref sig .tc := ⟨.hbm, 35, rfl⟩
abbrev main_c_0 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩

abbrev nD : Nat := 1
abbrev τ : Topo := Topo.v7x

variable {F : FTy → Type} [FloatOps F]
-- ==== Proof.Common.lean ====
/-
  The kernel as its proofs see it: the program under the launch theorem's names, the buffers, the value every entry of
  the result has, and the assertions the tile's invariants are written in.

  The array of 65536 rows is cut into 32 bands of 2048 rows, one per tile, and a band into 64 chunks of 32 rows. A tile
  brings a chunk into one of four buffers, rewrites the first 64 columns of each row there, and sends the chunk to the
  same rows of the result.
-/
module

public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Norm

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight MayWaits)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

/-- The handshakes' rounds, the left factor of the launch's element. -/
abbrev EH : Emb UH (MT nD τ sig (HIx 1) (Elt F) ℕ UU ℕ) := embL
/-- The transfers' counters, the right one. -/
abbrev EC : UEmb Counters (MT nD τ sig (HIx 1) (Elt F) ℕ UU ℕ) := countersEmb

/-! ## The arrays, the buffers, the tile -/

abbrev xLoc (d : Dev nD) : Loc nD τ sig := (SparseCore.T d).loc main_arg0
abbrev iLoc (d : Dev nD) : Loc nD τ sig := (SparseCore.T d).loc main_arg1
abbrev mLoc (d : Dev nD) : Loc nD τ sig := (SparseCore.T d).loc main_arg2
abbrev sLoc (d : Dev nD) : Loc nD τ sig := (SparseCore.T d).loc main_arg3
abbrev oLoc (d : Dev nD) : Loc nD τ sig := (SparseCore.T d).loc main_v0

abbrev xV : Memref sig .scVector .hbm S65536x512 .f32 := Memref.whole main_arg0_scv
abbrev iV : Memref sig .scVector .hbm S64 .i32 := Memref.whole main_arg1_scv
abbrev mV : Memref sig .scVector .hbm S64 .f32 := Memref.whole main_arg2_scv
abbrev sV : Memref sig .scVector .hbm S64 .f32 := Memref.whole main_arg3_scv
abbrev oV : Memref sig .scVector .hbm S65536x512 .f32 := Memref.whole main_v0_scv

/-- The four chunk buffers of a tile and its copies of the three tables. -/
abbrev b0 : Memref sig .scVector .vmem S32x512 .f32 := Memref.whole cc0_scratch0
abbrev b1 : Memref sig .scVector .vmem S32x512 .f32 := Memref.whole cc0_scratch1
abbrev b2 : Memref sig .scVector .vmem S32x512 .f32 := Memref.whole cc0_scratch2
abbrev b3 : Memref sig .scVector .vmem S32x512 .f32 := Memref.whole cc0_scratch3
abbrev iT : Memref sig .scVector .vmem S64 .i32 := Memref.whole cc0_scratch4
abbrev mT : Memref sig .scVector .vmem S64 .f32 := Memref.whole cc0_scratch5
abbrev sT : Memref sig .scVector .vmem S64 .f32 := Memref.whole cc0_scratch6

abbrev cV (L : grid0.Coords) : Fin τ.nSC := (L 0).castLE hcore0
abbrev jV (L : grid0.Coords) : Fin τ.nSub := (L 1).castLE hsub0
/-- The tile at coordinates `L` of device `d`. -/
abbrev thr (d : Dev nD) (L : grid0.Coords) : Thread nD τ := V d (cV L) (jV L)

/-- The first row of the tile's band. -/
def row0 (L : grid0.Coords) : ℕ := 4096 * (L 1).val + 2048 * (L 0).val

theorem row0_le (L : grid0.Coords) : row0 L + 2048 ≤ 65536 := by
  have h0 : (L 0).val < 2 := (L 0).isLt
  have h1 : (L 1).val < 16 := (L 1).isLt
  unfold row0; omega

/-- The first row of the tile's chunk `c`. -/
def rowC (L : grid0.Coords) (c : ℕ) : ℕ := row0 L + 32 * c

theorem rowC_le (L : grid0.Coords) {c : ℕ} (hc : c < 64) : rowC L c + 32 ≤ 65536 := by
  have := row0_le L; unfold rowC; omega

/-- The elements of rows `n` to `n + k - 1`. -/
def rowsSet (n k : ℕ) : Finset S65536x512.Idx := Finset.univ.filter fun i => n ≤ (i 0).val ∧ (i 0).val < n + k

theorem mem_rowsSet {n k : ℕ} {i : S65536x512.Idx} : i ∈ rowsSet n k ↔ n ≤ (i 0).val ∧ (i 0).val < n + k := by
  simp [rowsSet]

theorem rowsSet_disjoint {n k n' k' : ℕ} (h : n + k ≤ n' ∨ n' + k' ≤ n) : Disjoint (rowsSet n k) (rowsSet n' k') := by
  refine Finset.disjoint_left.mpr fun i hi hi' => ?_
  rw [mem_rowsSet] at hi hi'; omega

/-- The place in the array of element `j` of the 32 rows from row `n`. -/
def place (n : ℕ) (j : S32x512.Idx) : S65536x512.Idx := fun
  | ⟨0, _⟩ => ⟨(n + (j 0).val) % 65536, Nat.mod_lt _ (by decide)⟩
  | ⟨1, _⟩ => ⟨(j 1).val, (j 1).isLt⟩

theorem place_zero {n : ℕ} (hn : n + 32 ≤ 65536) (j : S32x512.Idx) : (place n j 0).val = n + (j 0).val := by
  have h : (j 0).val < 32 := (j 0).isLt
  show (n + (j 0).val) % 65536 = _
  exact Nat.mod_eq_of_lt (by omega)
theorem place_one (n : ℕ) (j : S32x512.Idx) : (place n j 1).val = (j 1).val := rfl

/-! ## The value -/

variable [FloatOps F]

/-- Entry `j` of a table. -/
def lane (j : ℕ) (h : j < 64) : S64.Idx := fun
  | ⟨0, _⟩ => ⟨j, h⟩

/-- What the kernel makes of the entry `v` in column `j`: in the first 64 columns, less the column's mean and times one
    over its deviation; beyond them, itself. -/
def nrm (mu sd : S64.Idx → F .f32) (j : ℕ) (v : F .f32) : F .f32 :=
  if h : j < 64 then
    FloatOps.mulf (FloatOps.subf v (mu (lane j h))) (FloatOps.divf (Scalar.ofBits .f32 0x3F800000#32) (sd (lane j h)))
  else v

/-- The result. -/
def result (mu sd : S64.Idx → F .f32) (x : S65536x512.Idx → F .f32) : S65536x512.Idx → F .f32 :=
  fun i => nrm mu sd (i 1).val (x i)

/-- The 32 rows from row `n` of an array's contents. -/
def chunk (g : S65536x512.Idx → F .f32) (n : ℕ) : S32x512.Idx → F .f32 := fun j => g (place n j)

/-! ## The assertions -/

section Tile
variable (d : Dev nD) (L : grid0.Coords)

/-- A chunk buffer, reading `g`. -/
def holds (b : Memref sig .scVector .vmem S32x512 .f32) (g : S32x512.Idx → F .f32) : sProp 𝕄 :=
  iprop(∃ f : Buf (Elt F) (b.view.loc (thr d L)), ⌜b.view.read (Elt F) f = g⌝ ∗ (b.view.loc (thr d L) ↦[b.view.set]{fullShare} f))

/-- A chunk buffer, at whatever it holds. -/
def free (b : Memref sig .scVector .vmem S32x512 .f32) : sProp 𝕄 :=
  iprop(∃ f : Buf (Elt F) (b.view.loc (thr d L)), b.view.loc (thr d L) ↦[b.view.set]{fullShare} f)

theorem holds_free (b : Memref sig .scVector .vmem S32x512 .f32) (g : S32x512.Idx → F .f32) :
    holds d L b g ⊢ (free d L b : sProp 𝕄) := by
  unfold holds free
  iintro ⟨%f, -, H⟩
  iexists f; iexact H

/-- The tile's `owes`, with nothing recorded beyond `W` but waits of its own copies. -/
def owing (O : CellTallies nD τ sig (HIx 1)) (W : Waits sig (HIx 1)) : sProp 𝕄 :=
  iprop(∃ W', ⌜∀ p ∈ W', p ∈ W ∨ p.2 = none⌝ ∗ owes (thr d L) O W')

end Tile

end Cert.Proof.Norm

end
-- ==== Proof.Fix.lean ====
/-
  The loop over a buffer's 32 rows that rewrites the first 64 columns, four groups of 16 at a time. The kernel has it
  four times, once per buffer; the proof has it once, for any buffer.
-/
module

public import proofs.«01_k».proof.Proof.Common
public import Idealize.ShloMosaic.Lib.Pipeline.Value

@[expose] public section

noncomputable section

namespace Cert.Proof.Norm

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The buffer part-way: rows before row `r` rewritten, and of row `r` its first `k` groups of 16 columns. -/
def upTo (mu sd : S64.Idx → F .f32) (g : S32x512.Idx → F .f32) (r k : ℕ) : S32x512.Idx → F .f32 := fun i =>
  if (i 0).val < r ∨ (i 0).val = r ∧ (i 1).val < 16 * k then nrm mu sd (i 1).val (g i) else g i

/-- The whole chunk rewritten. -/
def fixed (mu sd : S64.Idx → F .f32) (g : S32x512.Idx → F .f32) : S32x512.Idx → F .f32 := fun i => nrm mu sd (i 1).val (g i)

theorem upTo_zero (mu sd : S64.Idx → F .f32) (g : S32x512.Idx → F .f32) : upTo mu sd g 0 0 = g := by
  funext i; exact if_neg (by omega)

theorem upTo_row (mu sd : S64.Idx → F .f32) (g : S32x512.Idx → F .f32) (r : ℕ) :
    upTo mu sd g r 4 = upTo mu sd g (r + 1) 0 := by
  funext i
  unfold upTo
  by_cases h : (i 1).val < 64
  · exact if_congr (by omega) rfl rfl
  · have e : nrm mu sd (i 1).val (g i) = g i := dif_neg h
    rw [e, ite_self, ite_self]

theorem upTo_all (mu sd : S64.Idx → F .f32) (g : S32x512.Idx → F .f32) : upTo mu sd g 32 0 = fixed mu sd g := by
  funext i
  have h : (i 0).val < 32 := (i 0).isLt
  exact if_pos (.inl h)

theorem fixed_chunk (mu sd : S64.Idx → F .f32) (x : S65536x512.Idx → F .f32) (n : ℕ) :
    fixed mu sd (chunk x n) = chunk (result mu sd x) n := rfl

/-- Lane `j` of 16. -/
def lane16 (j : ℕ) (h : j < 16) : S16.Idx := fun
  | ⟨0, _⟩ => ⟨j, h⟩

/-- Group `k` of a table of 64, as the kernel holds it: 16 lanes. -/
def group {β : Type} (mu : S64.Idx → β) (k : ℕ) (hk : k < 4) : S16.Idx → β := fun l =>
  mu (lane (16 * k + (l 0).val) (by have h : (l 0).val < 16 := (l 0).isLt; omega))

/-- One over group `k` of the deviations. -/
def groupInv (sd : S64.Idx → F .f32) (k : ℕ) (hk : k < 4) : S16.Idx → F .f32 := fun l =>
  FloatOps.divf (Scalar.ofBits .f32 0x3F800000#32) (group sd k hk l)

section Step
variable (d : Dev nD) (L : grid0.Coords)
variable {α : Type} (b : Memref sig .scVector .vmem S32x512 .f32)

/-- What a row reads after a group's store. -/
theorem upTo_store (mu sd : S64.Idx → F .f32) (g : S32x512.Idx → F .f32) (r k : ℕ) (hk : k < 4) (hr : r < 32)
    (hinb : ∀ a, (![r, 16 * k] : Fin 2 → ℕ) a + S1x16.size a ≤ S32x512.size a)
    (f : b.view.ty.Contents (Elt F)) (hf : b.view.read (Elt F) f = upTo mu sd g r k) :
    b.view.read (Elt F) ((b.view.slice (Rect.unit (s := S32x512) ![r, 16 * k] S1x16.size hinb)).write (Elt F) f
      (shapeCast S1x16 (k0_pay1 (group mu k hk) (groupInv sd k hk)
        ((b.view.slice (Rect.unit (s := S32x512) ![r, 16 * k] S1x16.size hinb)).read (Elt F) f)) shapeCasts_S16_S1x16) Finset.univ)
      = upTo mu sd g r (k + 1) := by
  funext y
  by_cases hy : (y 0).val = r ∧ 16 * k ≤ (y 1).val ∧ (y 1).val < 16 * k + 16
  · obtain ⟨h0, h1, h2⟩ := hy
    obtain ⟨x, rfl⟩ : ∃ x : S1x16.Idx, (Rect.unit (s := S32x512) ![r, 16 * k] S1x16.size hinb).emb x = y := by
      refine ⟨fun | ⟨0, _⟩ => ⟨0, Nat.one_pos⟩ | ⟨1, _⟩ => ⟨(y 1).val - 16 * k, by show _ < 16; omega⟩, ?_⟩
      refine Shape.idx_ext₂ ?_ ?_
      · show r + 1 * 0 = (y 0).val; omega
      · show 16 * k + 1 * ((y 1).val - 16 * k) = (y 1).val; omega
    have hx1 : (x 1).val < 16 := (x 1).isLt
    have hx0 : (x 0).val < 1 := (x 0).isLt
    have e1 : ((Rect.unit (s := S32x512) ![r, 16 * k] S1x16.size hinb).emb x 1).val = 16 * k + (x 1).val := by
      show 16 * k + 1 * (x 1).val = _; omega
    rw [View.read_slice_write_emb _ _ _ (Finset.mem_univ x)]
    have l1 : ∀ (v : S16.Idx → F .f32), shapeCast S1x16 v shapeCasts_S16_S1x16 x = v (lane16 _ hx1) := fun v =>
      (shapeCast_addUnit_apply ![16] v shapeCasts_S16_S1x16 x).trans (congrArg v (funext fun a => by fin_cases a; rfl))
    have l2 : ∀ (v : S1x16.Idx → F .f32), shapeCast S16 v shapeCasts_S1x16_S16 (lane16 _ hx1) = v x := fun v =>
      (shapeCast_dropUnit_apply ![16] v shapeCasts_S1x16_S16 _).trans (congrArg v (Shape.idx_ext₂ (by show 0 = (x 0).val; omega) rfl))
    rw [l1]
    have l3 : (b.view.slice (Rect.unit (s := S32x512) ![r, 16 * k] S1x16.size hinb)).read (Elt F) f x
        = g ((Rect.unit (s := S32x512) ![r, 16 * k] S1x16.size hinb).emb x) := by
      refine (congrFun hf ((Rect.unit (s := S32x512) ![r, 16 * k] S1x16.size hinb).emb x)).trans (if_neg ?_)
      rw [e1]; omega
    show FloatOps.mulf (FloatOps.subf (shapeCast S16 _ shapeCasts_S1x16_S16 _) _) _ = _
    rw [l2, l3]
    have hc : ((Rect.unit (s := S32x512) ![r, 16 * k] S1x16.size hinb).emb x 1).val < 64 := by omega
    unfold upTo
    rw [if_pos (.inr ⟨h0, by omega⟩), nrm, dif_pos hc]
    have hl : lane _ hc = lane (16 * k + (x 1).val) (by omega) := by congr 1
    rw [hl]; rfl
  · rw [View.read_slice_write_of_not_mem, hf]
    · unfold upTo
      by_cases hc : (y 0).val < r ∨ (y 0).val = r ∧ (y 1).val < 16 * k
      · rw [if_pos hc, if_pos (by omega)]
      · rw [if_neg hc, if_neg (by omega)]
    · intro hm
      obtain ⟨x, -, rfl⟩ := Finset.mem_map.mp hm
      have hx1 : (x 1).val < 16 := (x 1).isLt
      have hx0 : (x 0).val < 1 := (x 0).isLt
      refine hy ⟨?_, ?_, ?_⟩
      · show r + 1 * (x 0).val = r; omega
      · show 16 * k ≤ 16 * k + 1 * (x 1).val; omega
      · show 16 * k + 1 * (x 1).val < 16 * k + 16; omega

/-- One group of one row: loaded (twice), rewritten, stored. -/
theorem wp_group (mu sd : S64.Idx → F .f32) (g : S32x512.Idx → F .f32) (r k : ℕ) (hk : k < 4) (hr : r < 32)
    {off : Fin 2 → ℕ} (hoff : off = ![r, 16 * k]) {hinb : ∀ a, off a + S1x16.size a ≤ S32x512.size a}
    {hl hl' : b.view.LoadsAt (Rect.unit (s := S32x512) off S1x16.size hinb).toLoadRect}
    {hx : (b.access (Rect.unit (s := S32x512) off S1x16.size hinb)).Stores Finset.univ}
    {hm : (Finset.univ : Finset (Rect.unit (s := S32x512) off S1x16.size hinb).shape.Idx) = Finset.univ ∨ ∀ a, (Rect.unit (s := S32x512) off S1x16.size hinb).stride a = 1}
    {vm vi : S16.Idx → F .f32} (hvm : vm = group mu k hk) (hvi : vi = groupInv sd k hk)
    {kk : PUnit → Prog (TpuEff nD τ sig (Elt F) Λ₀ (thr d L).2) α} {Q : α → sProp 𝕄} :
    holds d L b (upTo mu sd g r k)
      ⊢ iprop((holds d L b (upTo mu sd g r (k + 1)) -∗ wp frame (wpE (defs₀ (F := F)) 𝒱₀ (thr d L) none) Set.univ (kk ⟨⟩) Q)
        -∗ wp frame (wpE (defs₀ (F := F)) 𝒱₀ (thr d L) none) Set.univ
            (.op (.load b (Rect.unit (s := S32x512) off S1x16.size hinb).toLoadRect hl) fun v =>
              .op (.load b (Rect.unit (s := S32x512) off S1x16.size hinb).toLoadRect hl') fun _ =>
                .op (.store b (Rect.unit (s := S32x512) off S1x16.size hinb)
                  (shapeCast S1x16 (k0_pay1 vm vi v) shapeCasts_S16_S1x16) Finset.univ hx hm) kk) Q) := by
  subst hoff hvm hvi
  unfold holds
  iintro ⟨%f, %hf, H⟩ Hk
  iapply (wp_load 𝒱₀ (thr d L) none Set.univ (View.setOn_subset_set _ _)) $$ H
  iintro H
  iapply (wp_load 𝒱₀ (thr d L) none Set.univ (View.setOn_subset_set _ _)) $$ H
  iintro H
  iapply (wp_store 𝒱₀ (thr d L) none Set.univ (m := b) (r := Rect.unit (s := S32x512) ![r, 16 * k] S1x16.size hinb) ((View.setOn_subset_set _ _).trans (View.set_slice_subset _ _))) $$ H
  iintro H
  iapply Hk
  iexists _; isplitr [H]
  · ipureintro; exact upTo_store b mu sd g r k hk hr hinb f hf
  · iexact H

/-- One row: its four groups. The offsets are the program's, known by their closed forms. -/
theorem wp_row (mu sd : S64.Idx → F .f32) (g : S32x512.Idx → F .f32) (r : ℕ) (hr : r < 32)
    {o0 o1 o2 o3 : Fin 2 → ℕ} (h0 : o0 = ![r, 0]) (h1 : o1 = ![r, 16]) (h2 : o2 = ![r, 32]) (h3 : o3 = ![r, 48])
    {i0 : ∀ a, o0 a + S1x16.size a ≤ S32x512.size a} {i1 : ∀ a, o1 a + S1x16.size a ≤ S32x512.size a}
    {i2 : ∀ a, o2 a + S1x16.size a ≤ S32x512.size a} {i3 : ∀ a, o3 a + S1x16.size a ≤ S32x512.size a} :
    holds d L b (upTo mu sd g r 0)
      ⊢ wp frame (wpE (defs₀ (F := F)) 𝒱₀ (thr d L) none) Set.univ
          (.op (.load b (Rect.unit (s := S32x512) o0 S1x16.size i0).toLoadRect (View.loadsAt_vmem h_S1x16)) fun w0 =>
            .op (.load b (Rect.unit (s := S32x512) o0 S1x16.size i0).toLoadRect (View.loadsAt_vmem h_S1x16)) fun _ =>
            .op (.store b (Rect.unit (s := S32x512) o0 S1x16.size i0)
              (shapeCast S1x16 (k0_pay1 (group mu 0 (by decide)) (groupInv sd 0 (by decide)) w0) shapeCasts_S16_S1x16)
              Finset.univ (View.stores_vmem_bits_univ h_S1x16 rfl) (.inl rfl)) fun _ =>
            .op (.load b (Rect.unit (s := S32x512) o1 S1x16.size i1).toLoadRect (View.loadsAt_vmem h_S1x16)) fun w1 =>
            .op (.load b (Rect.unit (s := S32x512) o1 S1x16.size i1).toLoadRect (View.loadsAt_vmem h_S1x16)) fun _ =>
            .op (.store b (Rect.unit (s := S32x512) o1 S1x16.size i1)
              (shapeCast S1x16 (k0_pay1 (group mu 1 (by decide)) (groupInv sd 1 (by decide)) w1) shapeCasts_S16_S1x16)
              Finset.univ (View.stores_vmem_bits_univ h_S1x16 rfl) (.inl rfl)) fun _ =>
            .op (.load b (Rect.unit (s := S32x512) o2 S1x16.size i2).toLoadRect (View.loadsAt_vmem h_S1x16)) fun w2 =>
            .op (.load b (Rect.unit (s := S32x512) o2 S1x16.size i2).toLoadRect (View.loadsAt_vmem h_S1x16)) fun _ =>
            .op (.store b (Rect.unit (s := S32x512) o2 S1x16.size i2)
              (shapeCast S1x16 (k0_pay1 (group mu 2 (by decide)) (groupInv sd 2 (by decide)) w2) shapeCasts_S16_S1x16)
              Finset.univ (View.stores_vmem_bits_univ h_S1x16 rfl) (.inl rfl)) fun _ =>
            .op (.load b (Rect.unit (s := S32x512) o3 S1x16.size i3).toLoadRect (View.loadsAt_vmem h_S1x16)) fun w3 =>
            .op (.load b (Rect.unit (s := S32x512) o3 S1x16.size i3).toLoadRect (View.loadsAt_vmem h_S1x16)) fun _ =>
            .op (.store b (Rect.unit (s := S32x512) o3 S1x16.size i3)
              (shapeCast S1x16 (k0_pay1 (group mu 3 (by decide)) (groupInv sd 3 (by decide)) w3) shapeCasts_S16_S1x16)
              Finset.univ (View.stores_vmem_bits_univ h_S1x16 rfl) (.inl rfl)) fun _ => .ret (⟨⟩ : Unit))
          fun _ => holds d L b (upTo mu sd g (r + 1) 0) := by
  iintro H
  iapply (wp_group d L b mu sd g r 0 _ hr h0 rfl rfl) $$ H
  iintro H
  iapply (wp_group d L b mu sd g r 1 _ hr h1 rfl rfl) $$ H
  iintro H
  iapply (wp_group d L b mu sd g r 2 _ hr h2 rfl rfl) $$ H
  iintro H
  iapply (wp_group d L b mu sd g r 3 _ hr h3 rfl rfl) $$ H
  iintro H
  rw [wp_ret, ← upTo_row]
  imodintro; iexact H

/-- The loop over the rows: the buffer's chunk becomes its rewriting. -/
theorem wp_rows (mu sd : S64.Idx → F .f32) (g : S32x512.Idx → F .f32) (lp : Scf.Loop 32) (hok : lp.OK) (ht : lp.trips = 32)
    (body : Fin lp.trips → Unit → Prog (TpuEff nD τ sig (Elt F) Λ₀ (thr d L).2) Unit)
    (hbody : ∀ (r : Fin lp.trips) (a : Unit), holds d L b (upTo mu sd g r.val 0)
      ⊢ wp frame (wpE (defs₀ (F := F)) 𝒱₀ (thr d L) none) Set.univ (body r a) fun _ => holds d L b (upTo mu sd g (r.val + 1) 0))
    {kk : Unit → Prog (TpuEff nD τ sig (Elt F) Λ₀ (thr d L).2) α} {Q : α → sProp 𝕄} :
    holds d L b g
      ⊢ iprop((holds d L b (fixed mu sd g) -∗ wp frame (wpE (defs₀ (F := F)) 𝒱₀ (thr d L) none) Set.univ (kk ⟨⟩) Q)
        -∗ wp frame (wpE (defs₀ (F := F)) 𝒱₀ (thr d L) none) Set.univ (Scf.Loop.for lp hok ⟨⟩ body >>= kk) Q) := by
  iintro H Hk
  iapply (Scf.wp_for_bind _ _ _ lp.lb lp.ub lp.st hok ⟨⟩ body (fun r _ => holds d L b (upTo mu sd g r 0)) hbody) $$ [H]
  · rw [upTo_zero]; iexact H
  iintro %acc H
  iapply Hk
  rw [← upTo_all]
  iapply (Entails.of_eq (congrArg (fun n => holds d L b (upTo mu sd g n 0)) ht)); iexact H

end Step

end Cert.Proof.Norm

end
-- ==== Proof.Copies.lean ====
/-
  The tile's copies, one statement per kind: a chunk brought in, its wait, a chunk sent out, its wait. Each is for any
  buffer, any semaphore, any chunk. Between its start and its wait a copy is a flight, which delivers at the wait the
  buffer reading the chunk (in), or the chunk of the result at its final value (out).
-/
module

public import proofs.«01_k».proof.Proof.Fix

@[expose] public section

noncomputable section

namespace Cert.Proof.Norm

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers (Flight MayWaits)

variable {F : FTy → Type} [FloatOps F]

local notation "𝕄" => MT nD τ sig (HIx 1) (Elt F) ℕ UU ℕ

section Copies
variable (d : Dev nD) (L : grid0.Coords)

/-- Chunk `c` of the tile's band of the input, of the result. -/
def xCh (X : Buf (Elt F) (xLoc d)) (c : ℕ) : sProp 𝕄 := xLoc d ↦[rowsSet (rowC L c) 32]{fullShare} X
def oCh (f : Buf (Elt F) (oLoc d)) (c : ℕ) : sProp 𝕄 := oLoc d ↦[rowsSet (rowC L c) 32]{fullShare} f

/-- A semaphore of the tile at zero. -/
abbrev idle (s : DmaSem sig) : sProp 𝕄 := semVal (thr d L, .dma s) 0

/-- What a chunk's copy out credits its semaphore with. -/
abbrev NO : ℕ := sig.dmaCredit .scVector (Kind.scVector.table .hbm) (main_v0_scv : Ref sig .scVector).idx S32x512 .f32

/-- Chunk `c` on its way into `b`. -/
def inFl (X : Buf (Elt F) (xLoc d)) (b : Memref sig .scVector .vmem S32x512 .f32) (s : DmaSem sig) (c : ℕ) : sProp 𝕄 :=
  Flight (EC (F := F)) (thr d L) (.dma s) (none : HIx 1) b.view.dmaCredit
    iprop(holds d L b (chunk X (rowC L c)) ∗ xCh d L X c)

/-- Chunk `c` on its way out of `b`. -/
def outFl (G : Buf (Elt F) (oLoc d)) (b : Memref sig .scVector .vmem S32x512 .f32) (s : DmaSem sig) (c : ℕ) : sProp 𝕄 :=
  Flight (EC (F := F)) (thr d L) (.dma s) (none : HIx 1) NO iprop(oCh d L G c ∗ free d L b)

theorem numel_chunk : 0 < S32x512.numel := by decide +kernel

/-- The elements under 32 whole rows. -/
theorem set_rows {n : ℕ} (hinb : ∀ a, (![n, 0] : Fin 2 → ℕ) a + S32x512.size a ≤ S65536x512.size a) :
    (Rect.unit (s := S65536x512) ![n, 0] S32x512.size hinb).set = rowsSet n 32 := by
  ext i
  rw [Rect.mem_set_unit, mem_rowsSet]
  constructor
  · intro h; exact h 0
  · intro h a
    match a with
    | ⟨0, _⟩ => exact h
    | ⟨1, _⟩ =>
      have h1 : (i 1).val < 512 := (i 1).isLt
      exact ⟨Nat.zero_le _, by show (i 1).val < 0 + 512; omega⟩

theorem set_xRows {n : ℕ} {hinb : ∀ a, (![n, 0] : Fin 2 → ℕ) a + S32x512.size a ≤ S65536x512.size a} {hs} :
    (xV.slice (Rect.unit (s := S65536x512) ![n, 0] S32x512.size hinb) hs).view.set = rowsSet n 32 :=
  (View.set_slice_whole _ _).trans (set_rows hinb)
theorem set_oRows {n : ℕ} {hinb : ∀ a, (![n, 0] : Fin 2 → ℕ) a + S32x512.size a ≤ S65536x512.size a} {hs} :
    (oV.slice (Rect.unit (s := S65536x512) ![n, 0] S32x512.size hinb) hs).view.set = rowsSet n 32 :=
  (View.set_slice_whole _ _).trans (set_rows hinb)

theorem emb_rows {n : ℕ} (hinb : ∀ a, (![n, 0] : Fin 2 → ℕ) a + S32x512.size a ≤ S65536x512.size a) (j : S32x512.Idx) :
    (Rect.unit (s := S65536x512) ![n, 0] S32x512.size hinb).emb j = place n j := by
  have hn : n + 32 ≤ 65536 := hinb 0
  refine Shape.idx_ext₂ ?_ ?_
  · rw [place_zero hn]; show n + 1 * (j 0).val = _; omega
  · rw [place_one]; show 0 + 1 * (j 1).val = _; omega

variable {α : Type}
variable (b : Memref sig .scVector .vmem S32x512 .f32) (s : DmaSem sig) (c : ℕ)
variable (X : Buf (Elt F) (xLoc d)) (G f : Buf (Elt F) (oLoc d))
variable (O : CellTallies nD τ sig (HIx 1)) (W : Waits sig (HIx 1))

theorem wp_in_start {off : Fin 2 → ℕ} (hoff : off = ![rowC L c, 0]) {hinb : ∀ a, off a + S32x512.size a ≤ S65536x512.size a}
    {hs : ∀ a, (Rect.unit (s := S65536x512) off S32x512.size hinb).stride a = 1}
    {h1 : (xV.slice (Rect.unit (s := S65536x512) off S32x512.size hinb) hs).view.WordExact} {h2 : b.view.WordExact}
    {h3 : DmaTarget.Typed (nD := nD) .hbm (.dma s) (DmaTarget.here (p := (thr d L).2) b)}
    {kk : PUnit → Prog (TpuEff nD τ sig (Elt F) Λ₀ (thr d L).2) α} {Q : α → sProp 𝕄} :
    iprop(xCh d L X c ∗ free d L b ∗ idle d L s)
      ⊢ iprop((inFl d L X b s c -∗ wp frame (wpE (defs₀ (F := F)) 𝒱₀ (thr d L) none) Set.univ (kk ⟨⟩) Q)
        -∗ wp frame (wpE (defs₀ (F := F)) 𝒱₀ (thr d L) none) Set.univ
            (.op (.enqueueDma (xV.slice (Rect.unit (s := S65536x512) off S32x512.size hinb) hs) (.here b) (.dma s) h1 h2 h3) kk) Q) := by
  subst hoff
  unfold free
  iintro ⟨Hx, ⟨%fd, Hb⟩, Hs⟩ Hk
  iapply (Transfers.wp_dmaLocal (EC (F := F)) 𝒱₀ (thr d L) none
    (src := xV.slice (Rect.unit (s := S65536x512) ![rowC L c, 0] S32x512.size hinb) hs) (dst := b)
    (q := fullShare) (fs := X) (fd := fd) (none : HIx 1) b.view.dmaCredit rfl (View.dmaCredit_pos _ numel_chunk) (Finset.Subset.refl _)) $$ [Hx Hb Hs]
  · rw [set_xRows]
    isplitl [Hx]
    · unfold xCh; iexact Hx
    · isplitl [Hb]; · iexact Hb
      iexact Hs
  iintro HF
  iapply Hk
  unfold inFl
  rw [set_xRows]
  have hd : iprop((b.view.loc (thr d L) ↦[b.view.set]{fullShare}
        b.view.write (Elt F) fd ((xV.slice (Rect.unit (s := S65536x512) ![rowC L c, 0] S32x512.size hinb) hs).view.read (Elt F) X) Finset.univ)
      ∗ (xLoc d ↦[rowsSet (rowC L c) 32]{fullShare} X)) ⊢ (iprop(holds d L b (chunk X (rowC L c)) ∗ xCh d L X c) : sProp 𝕄) := by
    unfold holds
    iintro ⟨Hb, Hx⟩
    isplitl [Hb]
    · iexists _; isplitr [Hb]
      rotate_left
      · iexact Hb
      · ipureintro
        exact (View.read_write_univ _ _).trans (funext fun j => congrArg X (emb_rows hinb j))
    · unfold xCh; iexact Hx
  iapply (Transfers.Flight_mono (EC (F := F)) (thr d L) hd) $$ HF

theorem wp_in_wait {sp : Space} {src : Memref sig .scVector sp S32x512 .f32} {h1 : src.view.WordExact} {h2 : b.view.WordExact}
    {kk : PUnit → Prog (TpuEff nD τ sig (Elt F) Λ₀ (thr d L).2) α} {Q : α → sProp 𝕄} :
    iprop(inFl d L X b s c ∗ owing d L O W ∗ MayWaits (thr d L) (none : HIx 1) O)
      ⊢ iprop((iprop(holds d L b (chunk X (rowC L c)) ∗ xCh d L X c ∗ idle d L s ∗ owing d L O W)
          -∗ wp frame (wpE (defs₀ (F := F)) 𝒱₀ (thr d L) none) Set.univ (kk ⟨⟩) Q)
        -∗ wp frame (wpE (defs₀ (F := F)) 𝒱₀ (thr d L) none) Set.univ (.op (.waitDma2 s src b h1 h2) kk) Q) := by
  unfold inFl owing
  iintro ⟨HF, ⟨%W', %hW, HO⟩, Hm⟩ Hk
  iapply (Transfers.wp_waitLocalO (EC (F := F)) 𝒱₀ (thr d L) none (none : HIx 1) (N := b.view.dmaCredit) rfl) $$ [HF HO Hm]
  · isplitl [HF]; · iexact HF
    isplitl [HO]; · iexact HO
    iapply (Transfers.MayWaits.elim (.dma s)); iexact Hm
  iintro ⟨⟨Hb, Hx⟩, Hs, HO⟩
  iapply Hk
  isplitl [Hb]; · iexact Hb
  isplitl [Hx]; · iexact Hx
  isplitl [Hs]; · iexact Hs
  iexists _; isplitr [HO]
  rotate_left
  · iexact HO
  · ipureintro
    intro p hp
    rcases Finset.mem_insert.mp hp with rfl | hp
    · exact .inr rfl
    · exact hW p hp

theorem wp_out_start {off : Fin 2 → ℕ} (hoff : off = ![rowC L c, 0]) {hinb : ∀ a, off a + S32x512.size a ≤ S65536x512.size a}
    {hs : ∀ a, (Rect.unit (s := S65536x512) off S32x512.size hinb).stride a = 1}
    {h1 : b.view.WordExact} {h2 : (oV.slice (Rect.unit (s := S65536x512) off S32x512.size hinb) hs).view.WordExact}
    {h3 : DmaTarget.Typed (nD := nD) .vmem (.dma s) (DmaTarget.here (p := (thr d L).2) (oV.slice (Rect.unit (s := S65536x512) off S32x512.size hinb) hs))}
    {kk : PUnit → Prog (TpuEff nD τ sig (Elt F) Λ₀ (thr d L).2) α} {Q : α → sProp 𝕄} :
    iprop(holds d L b (chunk G (rowC L c)) ∗ oCh d L f c ∗ idle d L s)
      ⊢ iprop((outFl d L G b s c -∗ wp frame (wpE (defs₀ (F := F)) 𝒱₀ (thr d L) none) Set.univ (kk ⟨⟩) Q)
        -∗ wp frame (wpE (defs₀ (F := F)) 𝒱₀ (thr d L) none) Set.univ
            (.op (.enqueueDma b (.here (oV.slice (Rect.unit (s := S65536x512) off S32x512.size hinb) hs)) (.dma s) h1 h2 h3) kk) Q) := by
  subst hoff
  unfold holds
  iintro ⟨⟨%fb, %hfb, Hb⟩, Ho, Hs⟩ Hk
  iapply (Transfers.wp_dmaLocal (EC (F := F)) 𝒱₀ (thr d L) none
    (src := b) (dst := oV.slice (Rect.unit (s := S65536x512) ![rowC L c, 0] S32x512.size hinb) hs)
    (q := fullShare) (fs := fb) (fd := f) (Sd := rowsSet (rowC L c) 32) (none : HIx 1) NO rfl (sig.dmaCredit_pos _ _ _ _ _ numel_chunk)
    (set_oRows (hinb := hinb) (hs := hs)).le) $$ [Ho Hb Hs]
  · isplitl [Hb]; · iexact Hb
    isplitl [Ho]
    · unfold oCh; iexact Ho
    · iexact Hs
  iintro HF
  iapply Hk
  unfold outFl
  have hd : iprop((oLoc d ↦[rowsSet (rowC L c) 32]{fullShare}
        (oV.slice (Rect.unit (s := S65536x512) ![rowC L c, 0] S32x512.size hinb) hs).view.write (Elt F) f (b.view.read (Elt F) fb) Finset.univ)
      ∗ (b.view.loc (thr d L) ↦[b.view.set]{fullShare} fb)) ⊢ (iprop(oCh d L G c ∗ free d L b) : sProp 𝕄) := by
    unfold oCh free
    rw [pointsTo_congr (g := G)]
    · iintro ⟨Ho, Hb⟩
      isplitl [Ho]; · iexact Ho
      iexists _; iexact Hb
    · intro i hi
      rw [← set_rows hinb] at hi
      rw [← Rect.map_emb_univ] at hi
      obtain ⟨j, -, rfl⟩ := Finset.mem_map.mp hi
      have e := View.write_emb_of_mem (Val := Elt F) (v := (oV.slice (Rect.unit (s := S65536x512) ![rowC L c, 0] S32x512.size hinb) hs).view) f
        (b.view.read (Elt F) fb) (Finset.mem_univ j)
      refine e.trans ?_
      rw [hfb]
      exact congrArg G (emb_rows hinb j).symm
  iapply (Transfers.Flight_mono (EC (F := F)) (thr d L) hd) $$ HF

theorem wp_out_wait {off : Fin 2 → ℕ} {hinb : ∀ a, off a + S32x512.size a ≤ S65536x512.size a}
    {hs : ∀ a, (Rect.unit (s := S65536x512) off S32x512.size hinb).stride a = 1}
    {h1 : b.view.WordExact} {h2 : (oV.slice (Rect.unit (s := S65536x512) off S32x512.size hinb) hs).view.WordExact}
    {kk : PUnit → Prog (TpuEff nD τ sig (Elt F) Λ₀ (thr d L).2) α} {Q : α → sProp 𝕄} :
    iprop(outFl d L G b s c ∗ owing d L O W ∗ MayWaits (thr d L) (none : HIx 1) O)
      ⊢ iprop((iprop(free d L b ∗ oCh d L G c ∗ idle d L s ∗ owing d L O W)
          -∗ wp frame (wpE (defs₀ (F := F)) 𝒱₀ (thr d L) none) Set.univ (kk ⟨⟩) Q)
        -∗ wp frame (wpE (defs₀ (F := F)) 𝒱₀ (thr d L) none) Set.univ
          (.op (.waitDma2 s b (oV.slice (Rect.unit (s := S65536x512) off S32x512.size hinb) hs) h1 h2) kk) Q) := by
  unfold outFl owing
  iintro ⟨HF, ⟨%W', %hW, HO⟩, Hm⟩ Hk
  iapply (Transfers.wp_waitLocalO (EC (F := F)) 𝒱₀ (thr d L) none (none : HIx 1) (N := NO) rfl) $$ [HF HO Hm]
  · isplitl [HF]; · iexact HF
    isplitl [HO]; · iexact HO
    iapply (Transfers.MayWaits.elim (.dma s)); iexact Hm
  iintro ⟨⟨Ho, Hb⟩, Hs, HO⟩
  iapply Hk
  isplitl [Hb]; · iexact Hb
  isplitl [Ho]; · iexact Ho
  isplitl [Hs]; · iexact Hs
  iexists _; isplitr [HO]
  rotate_left
  · iexact HO
  · ipureintro
    intro p hp
    rcases Finset.mem_insert.mp hp with rfl | hp
    · exact .inr rfl
    · exact hW p hp

/-! ## Under a condition -/

/-- A buffer some copy out may still be reading: one of chunk `c` under `P`, none otherwise. -/
def outSlot (P : Prop) [Decidable P] : sProp 𝕄 := if P then outFl d L G b s c else iprop(free d L b ∗ idle d L s)
/-- What waiting for it gives of the result. -/
def oOpt (P : Prop) [Decidable P] : sProp 𝕄 := if P then oCh d L G c else iprop(emp)
/-- A buffer some copy in may be filling: one of chunk `c`, none if there is no such chunk. -/
def inSlot : sProp 𝕄 := if c < 64 then inFl d L X b s c else iprop(free d L b ∗ idle d L s)
/-- Chunk `c` of the input, nothing if there is none. -/
def xOpt : sProp 𝕄 := if c < 64 then xCh d L X c else iprop(emp)

/-- The wait for the buffer's last copy out, if there was one. -/
theorem wp_out_wait_if {P : Prop} [Decidable P] {C : Prop} [Decidable C] (hC : C ↔ P) {off : Fin 2 → ℕ}
    {hinb : C → ∀ a, off a + S32x512.size a ≤ S65536x512.size a}
    {hs : ∀ h : C, ∀ a, (Rect.unit (s := S65536x512) off S32x512.size (hinb h)).stride a = 1}
    {h1 : C → b.view.WordExact} {h2 : ∀ h : C, (oV.slice (Rect.unit (s := S65536x512) off S32x512.size (hinb h)) (hs h)).view.WordExact}
    {p : Prog (TpuEff nD τ sig (Elt F) Λ₀ (thr d L).2) α} {Q : α → sProp 𝕄} :
    iprop(outSlot d L b s c G P ∗ owing d L O W ∗ MayWaits (thr d L) (none : HIx 1) O)
      ⊢ iprop((iprop(free d L b ∗ oOpt d L c G P ∗ idle d L s ∗ owing d L O W)
          -∗ wp frame (wpE (defs₀ (F := F)) 𝒱₀ (thr d L) none) Set.univ p Q)
        -∗ wp frame (wpE (defs₀ (F := F)) 𝒱₀ (thr d L) none) Set.univ
          (if h : C then .op (.waitDma2 s b (oV.slice (Rect.unit (s := S65536x512) off S32x512.size (hinb h)) (hs h)) (h1 h) (h2 h)) fun _ => p
            else p) Q) := by
  unfold outSlot oOpt
  by_cases h : C
  · rw [dif_pos h, if_pos (hC.mp h), if_pos (hC.mp h)]
    exact wp_out_wait d L b s c G O W (kk := fun _ => p)
  · rw [dif_neg h, if_neg (mt hC.mpr h), if_neg (mt hC.mpr h)]
    iintro ⟨⟨Hb, Hs⟩, HO, -⟩ Hk
    iapply Hk
    isplitl [Hb]; · iexact Hb
    isplitr [Hs HO]; · iempintro
    isplitl [Hs]; · iexact Hs
    iexact HO

/-- The start of a copy in, if its chunk exists. -/
theorem wp_in_start_if {C : Prop} [Decidable C] (hC : C ↔ c < 64) {off : Fin 2 → ℕ} (hoff : off = ![rowC L c, 0])
    {hinb : C → ∀ a, off a + S32x512.size a ≤ S65536x512.size a}
    {hs : ∀ h : C, ∀ a, (Rect.unit (s := S65536x512) off S32x512.size (hinb h)).stride a = 1}
    {h1 : ∀ h : C, (xV.slice (Rect.unit (s := S65536x512) off S32x512.size (hinb h)) (hs h)).view.WordExact} {h2 : C → b.view.WordExact}
    {h3 : C → DmaTarget.Typed (nD := nD) .hbm (.dma s) (DmaTarget.here (p := (thr d L).2) b)}
    {p : Prog (TpuEff nD τ sig (Elt F) Λ₀ (thr d L).2) α} {Q : α → sProp 𝕄} :
    iprop(xOpt d L c X ∗ free d L b ∗ idle d L s)
      ⊢ iprop((inSlot d L b s c X -∗ wp frame (wpE (defs₀ (F := F)) 𝒱₀ (thr d L) none) Set.univ p Q)
        -∗ wp frame (wpE (defs₀ (F := F)) 𝒱₀ (thr d L) none) Set.univ
          (if h : C then .op (.enqueueDma (xV.slice (Rect.unit (s := S65536x512) off S32x512.size (hinb h)) (hs h)) (.here b) (.dma s)
              (h1 h) (h2 h) (h3 h)) fun _ => p
            else p) Q) := by
  unfold inSlot xOpt
  by_cases h : C
  · rw [dif_pos h, if_pos (hC.mp h), if_pos (hC.mp h)]
    exact wp_in_start d L b s c X hoff (kk := fun _ => p)
  · rw [dif_neg h, if_neg (mt hC.mpr h), if_neg (mt hC.mpr h)]
    iintro ⟨-, Hb⟩ Hk
    iapply Hk
    iexact Hb

end Copies

end Cert.Proof.Norm

end
-- ==== Proof.Trip.lean ====
/-
  One trip of the tile's main loop: four chunks, one per buffer, taken through the three parts the program is printed in.
-/
module

public import proofs.«01_k».proof.Proof.Copies

@[expose] public section

noncomputable section

namespace Cert.Proof.Norm

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers (Flight MayWaits)

variable {F : FTy → Type} [FloatOps F]

local notation "𝕄" => MT nD τ sig (HIx 1) (Elt F) ℕ UU ℕ

/-! ## The offsets and the conditions -/

section Facts
variable (L : grid0.Coords) (t : Fin k0_t1_loop.trips)

theorem trip_lt : t.val < 16 := t.isLt

theorem off_in (r : Fin 4) : k0_off2 L t (BitVec.ofNat 32 r.val) = ![rowC L (4 * t.val + r.val), 0] := by
  rw [k0_off2_eq]; unfold rowC row0; congr 1; omega
theorem off_4 : k0_off4 L t = ![rowC L (4 * t.val + 2), 0] := by
  rw [k0_off4_eq]; unfold rowC row0; congr 1; omega
theorem off_10 : k0_off10 L t = ![rowC L (4 * t.val + 3), 0] := by
  rw [k0_off10_eq]; unfold rowC row0; congr 1; omega
theorem off_16 : k0_off16 L t = ![rowC L (4 * t.val + 4), 0] := by
  rw [k0_off16_eq]; unfold rowC row0; congr 1; omega
theorem off_22 : k0_off22 L t = ![rowC L (4 * t.val + 5), 0] := by
  rw [k0_off22_eq]; unfold rowC row0; congr 1; omega

theorem cond_1 : k0_cond1 t = 1#1 ↔ 0 < t.val := by revert t; decide +kernel
theorem cond_2 : k0_cond2 t = 1#1 := by revert t; decide +kernel
theorem cond_3 : k0_cond3 t = 1#1 ↔ 0 < t.val := by revert t; decide +kernel
theorem cond_4 : k0_cond4 t = 1#1 := by revert t; decide +kernel
theorem cond_5 : k0_cond5 t = 1#1 := by revert t; decide +kernel
theorem cond_6 : k0_cond6 t = 1#1 ↔ 4 * t.val + 4 < 64 := by revert t; decide +kernel
theorem cond_7 : k0_cond7 t = 1#1 := by revert t; decide +kernel
theorem cond_8 : k0_cond8 t = 1#1 ↔ 4 * t.val + 5 < 64 := by revert t; decide +kernel

end Facts

/-! ## A copy in that always starts, and a copy out that is always awaited -/

section Sure
variable (d : Dev nD) (L : grid0.Coords)
variable (b : Memref sig .scVector .vmem S32x512 .f32) (s : DmaSem sig) (c : ℕ)
variable (X : Buf (Elt F) (xLoc d)) (G : Buf (Elt F) (oLoc d))
variable (O : CellTallies nD τ sig (HIx 1)) (W : Waits sig (HIx 1))

theorem wp_out_wait_sure {α : Type} {C : Prop} [Decidable C] (hC : C) {off : Fin 2 → ℕ}
    {hinb : C → ∀ a, off a + S32x512.size a ≤ S65536x512.size a}
    {hs : ∀ h : C, ∀ a, (Rect.unit (s := S65536x512) off S32x512.size (hinb h)).stride a = 1}
    {h1 : C → b.view.WordExact} {h2 : ∀ h : C, (oV.slice (Rect.unit (s := S65536x512) off S32x512.size (hinb h)) (hs h)).view.WordExact}
    {p : Prog (TpuEff nD τ sig (Elt F) Λ₀ (thr d L).2) α} {Q : α → sProp 𝕄} :
    iprop(outFl d L G b s c ∗ owing d L O W ∗ MayWaits (thr d L) (none : HIx 1) O)
      ⊢ iprop((iprop(free d L b ∗ oCh d L G c ∗ idle d L s ∗ owing d L O W)
          -∗ wp frame (wpE (defs₀ (F := F)) 𝒱₀ (thr d L) none) Set.univ p Q)
        -∗ wp frame (wpE (defs₀ (F := F)) 𝒱₀ (thr d L) none) Set.univ
          (if h : C then .op (.waitDma2 s b (oV.slice (Rect.unit (s := S65536x512) off S32x512.size (hinb h)) (hs h)) (h1 h) (h2 h)) fun _ => p
            else p) Q) := by
  rw [dif_pos hC]
  exact wp_out_wait d L b s c G O W (kk := fun _ => p)

theorem wp_in_start_sure {α : Type} {C : Prop} [Decidable C] (hC : C) {off : Fin 2 → ℕ} (hoff : off = ![rowC L c, 0])
    {hinb : C → ∀ a, off a + S32x512.size a ≤ S65536x512.size a}
    {hs : ∀ h : C, ∀ a, (Rect.unit (s := S65536x512) off S32x512.size (hinb h)).stride a = 1}
    {h1 : ∀ h : C, (xV.slice (Rect.unit (s := S65536x512) off S32x512.size (hinb h)) (hs h)).view.WordExact} {h2 : C → b.view.WordExact}
    {h3 : C → DmaTarget.Typed (nD := nD) .hbm (.dma s) (DmaTarget.here (p := (thr d L).2) b)}
    {p : Prog (TpuEff nD τ sig (Elt F) Λ₀ (thr d L).2) α} {Q : α → sProp 𝕄} :
    iprop(xCh d L X c ∗ free d L b ∗ idle d L s)
      ⊢ iprop((inFl d L X b s c -∗ wp frame (wpE (defs₀ (F := F)) 𝒱₀ (thr d L) none) Set.univ p Q)
        -∗ wp frame (wpE (defs₀ (F := F)) 𝒱₀ (thr d L) none) Set.univ
          (if h : C then .op (.enqueueDma (xV.slice (Rect.unit (s := S65536x512) off S32x512.size (hinb h)) (hs h)) (.here b) (.dma s)
              (h1 h) (h2 h) (h3 h)) fun _ => p
            else p) Q) := by
  rw [dif_pos hC]
  exact wp_in_start d L b s c X hoff (kk := fun _ => p)

end Sure

/-! ## The parts, at the kernel's own buffers -/

section Parts
variable (d : Dev nD) (L : grid0.Coords) (mu sd : S64.Idx → F .f32) (v2 : BitVec 32) (t : Fin k0_t1_loop.trips)

abbrev partA :=
  k0_part1 (F := F) L xV (Memref.isWhole_whole _) iV (Memref.isWhole_whole _) mV (Memref.isWhole_whole _) sV (Memref.isWhole_whole _)
    oV (Memref.isWhole_whole _) b0 (Memref.isWhole_whole _) b1 (Memref.isWhole_whole _) b2 (Memref.isWhole_whole _) b3 (Memref.isWhole_whole _)
    iT (Memref.isWhole_whole _) mT (Memref.isWhole_whole _) sT (Memref.isWhole_whole _)
    cc0_scratch7 cc0_scratch8 cc0_scratch9 cc0_scratch10 cc0_scratch11 cc0_scratch12 cc0_scratch13 cc0_scratch14
    cc0_scoped0 cc0_scoped1 cc0_scoped2 v2
    (group mu 0 (by decide)) (group mu 1 (by decide)) (group mu 2 (by decide)) (group mu 3 (by decide))
    (groupInv sd 0 (by decide)) (groupInv sd 1 (by decide)) (groupInv sd 2 (by decide)) (groupInv sd 3 (by decide)) 0#32 1#32 t

abbrev partB (a22 a57 a62 : BitVec 32) :=
  k0_part2 (F := F) L xV (Memref.isWhole_whole _) iV (Memref.isWhole_whole _) mV (Memref.isWhole_whole _) sV (Memref.isWhole_whole _)
    oV (Memref.isWhole_whole _) b0 (Memref.isWhole_whole _) b1 (Memref.isWhole_whole _) b2 (Memref.isWhole_whole _) b3 (Memref.isWhole_whole _)
    iT (Memref.isWhole_whole _) mT (Memref.isWhole_whole _) sT (Memref.isWhole_whole _)
    cc0_scratch7 cc0_scratch8 cc0_scratch9 cc0_scratch10 cc0_scratch11 cc0_scratch12 cc0_scratch13 cc0_scratch14
    cc0_scoped0 cc0_scoped1 cc0_scoped2 v2
    (group mu 0 (by decide)) (group mu 1 (by decide)) (group mu 2 (by decide)) (group mu 3 (by decide))
    (groupInv sd 0 (by decide)) (groupInv sd 1 (by decide)) (groupInv sd 2 (by decide)) (groupInv sd 3 (by decide)) t a22 a57 a62

abbrev partC (a22 a77 : BitVec 32) :=
  k0_part3 (F := F) L xV (Memref.isWhole_whole _) iV (Memref.isWhole_whole _) mV (Memref.isWhole_whole _) sV (Memref.isWhole_whole _)
    oV (Memref.isWhole_whole _) b0 (Memref.isWhole_whole _) b1 (Memref.isWhole_whole _) b2 (Memref.isWhole_whole _) b3 (Memref.isWhole_whole _)
    iT (Memref.isWhole_whole _) mT (Memref.isWhole_whole _) sT (Memref.isWhole_whole _)
    cc0_scratch7 cc0_scratch8 cc0_scratch9 cc0_scratch10 cc0_scratch11 cc0_scratch12 cc0_scratch13 cc0_scratch14
    cc0_scoped0 cc0_scoped1 cc0_scoped2 v2
    (group mu 0 (by decide)) (group mu 1 (by decide)) (group mu 2 (by decide)) (group mu 3 (by decide))
    (groupInv sd 0 (by decide)) (groupInv sd 1 (by decide)) (groupInv sd 2 (by decide)) (groupInv sd 3 (by decide)) t a22 a77

variable (X : Buf (Elt F) (xLoc d)) (f : Buf (Elt F) (oLoc d))
variable (O : CellTallies nD τ sig (HIx 1)) (W : Waits sig (HIx 1))

set_option maxHeartbeats 2000000 in
/-- The first part: buffer 0's chunk arrives, is rewritten and leaves; buffer 2 is freed and filled; buffer 1's chunk
    arrives. -/
theorem wp_partA {Q : (Σ' (_ : BitVec 32) (_ : BitVec 32), BitVec 32) → sProp 𝕄} :
    iprop(MayWaits (thr d L) (none : HIx 1) O ∗ inFl d L X b0 cc0_scratch7.sem (4 * t.val) ∗ outSlot d L b2 cc0_scratch13.sem (4 * t.val - 2) (result mu sd X) (0 < t.val)
        ∗ idle d L cc0_scratch9.sem ∗ idle d L cc0_scratch11.sem ∗ xCh d L X (4 * t.val + 2) ∗ oCh d L f (4 * t.val)
        ∗ inFl d L X b1 cc0_scratch8.sem (4 * t.val + 1) ∗ owing d L O W)
      ⊢ iprop((∀ a, iprop(outFl d L (result mu sd X) b0 cc0_scratch11.sem (4 * t.val) ∗ idle d L cc0_scratch7.sem
            ∗ oOpt d L (4 * t.val - 2) (result mu sd X) (0 < t.val) ∗ idle d L cc0_scratch13.sem
            ∗ inFl d L X b2 cc0_scratch9.sem (4 * t.val + 2) ∗ xCh d L X (4 * t.val)
            ∗ holds d L b1 (chunk X (rowC L (4 * t.val + 1))) ∗ xCh d L X (4 * t.val + 1) ∗ idle d L cc0_scratch8.sem ∗ owing d L O W) -∗ Q a)
        -∗ wp frame (wpE (defs₀ (F := F)) 𝒱₀ (thr d L) none) Set.univ (partA L mu sd v2 t) Q) := by
  unfold partA
  rw [k0_part1_eq_skeleton]; unfold k0_part1_skel
  simp only [Prog.lift, Prog.bind_op, Prog.bind_ret, Prog.pure_eq_ret]
  iintro ⟨#Hm, Hi0, Ho2, Hs9, Hs11, Hx2, Hoc, Hi1, HO⟩ Hk
  iapply (wp_in_wait d L b0 cc0_scratch7.sem (4 * t.val) X O W) $$ [Hi0 HO]
  · isplitl [Hi0]; · iexact Hi0
    isplitl [HO]; · iexact HO
    iexact Hm
  iintro ⟨Hb0, Hx0, Hs7, HO⟩
  iapply (wp_out_wait_if d L b2 cc0_scratch13.sem (4 * t.val - 2) (result mu sd X) O W (cond_1 t)) $$ [Ho2 HO]
  · isplitl [Ho2]; · iexact Ho2
    isplitl [HO]; · iexact HO
    iexact Hm
  iintro ⟨Hb2, Ho2, Hs13, HO⟩
  iapply (wp_in_start_sure d L b2 cc0_scratch9.sem (4 * t.val + 2) X (cond_2 t) (off_4 L t)) $$ [Hx2 Hb2 Hs9]
  · isplitl [Hx2]; · iexact Hx2
    isplitl [Hb2]; · iexact Hb2
    iexact Hs9
  iintro Hi2
  iapply (wp_rows d L b0 mu sd (chunk X (rowC L (4 * t.val))) k0_t2_loop k0_t2_ok rfl _
    (fun r _ => wp_row d L b0 mu sd _ r.val r.isLt (k0_off5_eq r) (k0_off6_eq r) (k0_off7_eq r) (k0_off8_eq r))) $$ [Hb0]
  · iexact Hb0
  iintro Hb0
  iapply (wp_out_start d L b0 cc0_scratch11.sem (4 * t.val) (result mu sd X) f (off_in L t 0)) $$ [Hb0 Hoc Hs11]
  · isplitl [Hb0]; · iexact Hb0
    isplitl [Hoc]; · iexact Hoc
    iexact Hs11
  iintro Ho0
  iapply (wp_in_wait d L b1 cc0_scratch8.sem (4 * t.val + 1) X O W) $$ [Hi1 HO]
  · isplitl [Hi1]; · iexact Hi1
    isplitl [HO]; · iexact HO
    iexact Hm
  iintro ⟨Hb1, Hx1, Hs8, HO⟩
  rw [wp_ret]; imodintro
  iapply Hk
  isplitl [Ho0]; · iexact Ho0
  isplitl [Hs7]; · iexact Hs7
  isplitl [Ho2]; · iexact Ho2
  isplitl [Hs13]; · iexact Hs13
  isplitl [Hi2]; · iexact Hi2
  isplitl [Hx0]; · iexact Hx0
  isplitl [Hb1]; · iexact Hb1
  isplitl [Hx1]; · iexact Hx1
  isplitl [Hs8]; · iexact Hs8
  iexact HO

set_option maxHeartbeats 2000000 in
/-- The second part: buffer 3 is freed and filled; buffer 1's chunk is rewritten and leaves; buffer 2's chunk arrives;
    buffer 0's has left. -/
theorem wp_partB (a22 a57 a62 : BitVec 32) {Q : BitVec 32 → sProp 𝕄} :
    iprop(MayWaits (thr d L) (none : HIx 1) O ∗ outSlot d L b3 cc0_scratch14.sem (4 * t.val - 1) (result mu sd X) (0 < t.val) ∗ idle d L cc0_scratch10.sem ∗ xCh d L X (4 * t.val + 3)
        ∗ holds d L b1 (chunk X (rowC L (4 * t.val + 1))) ∗ oCh d L f (4 * t.val + 1) ∗ idle d L cc0_scratch12.sem
        ∗ inFl d L X b2 cc0_scratch9.sem (4 * t.val + 2) ∗ outFl d L (result mu sd X) b0 cc0_scratch11.sem (4 * t.val) ∗ owing d L O W)
      ⊢ iprop((∀ a, iprop(oOpt d L (4 * t.val - 1) (result mu sd X) (0 < t.val) ∗ idle d L cc0_scratch14.sem ∗ inFl d L X b3 cc0_scratch10.sem (4 * t.val + 3)
            ∗ outFl d L (result mu sd X) b1 cc0_scratch12.sem (4 * t.val + 1)
            ∗ holds d L b2 (chunk X (rowC L (4 * t.val + 2))) ∗ xCh d L X (4 * t.val + 2) ∗ idle d L cc0_scratch9.sem
            ∗ free d L b0 ∗ oCh d L (result mu sd X) (4 * t.val) ∗ idle d L cc0_scratch11.sem ∗ owing d L O W) -∗ Q a)
        -∗ wp frame (wpE (defs₀ (F := F)) 𝒱₀ (thr d L) none) Set.univ (partB L mu sd v2 t a22 a57 a62) Q) := by
  unfold partB
  rw [k0_part2_eq_skeleton]; unfold k0_part2_skel
  simp only [Prog.lift, Prog.bind_op, Prog.bind_ret, Prog.pure_eq_ret]
  iintro ⟨#Hm, Ho3, Hs10, Hx3, Hb1, Hoc1, Hs12, Hi2, Ho0, HO⟩ Hk
  iapply (wp_out_wait_if d L b3 cc0_scratch14.sem (4 * t.val - 1) (result mu sd X) O W (cond_3 t)) $$ [Ho3 HO]
  · isplitl [Ho3]; · iexact Ho3
    isplitl [HO]; · iexact HO
    iexact Hm
  iintro ⟨Hb3, Ho3, Hs14, HO⟩
  iapply (wp_in_start_sure d L b3 cc0_scratch10.sem (4 * t.val + 3) X (cond_4 t) (off_10 L t)) $$ [Hx3 Hb3 Hs10]
  · isplitl [Hx3]; · iexact Hx3
    isplitl [Hb3]; · iexact Hb3
    iexact Hs10
  iintro Hi3
  iapply (wp_rows d L b1 mu sd (chunk X (rowC L (4 * t.val + 1))) k0_t3_loop k0_t3_ok rfl _
    (fun r _ => wp_row d L b1 mu sd _ r.val r.isLt (k0_off11_eq r) (k0_off12_eq r) (k0_off13_eq r) (k0_off14_eq r))) $$ [Hb1]
  · iexact Hb1
  iintro Hb1
  iapply (wp_out_start d L b1 cc0_scratch12.sem (4 * t.val + 1) (result mu sd X) f (off_in L t 1)) $$ [Hb1 Hoc1 Hs12]
  · isplitl [Hb1]; · iexact Hb1
    isplitl [Hoc1]; · iexact Hoc1
    iexact Hs12
  iintro Ho1
  iapply (wp_in_wait d L b2 cc0_scratch9.sem (4 * t.val + 2) X O W) $$ [Hi2 HO]
  · isplitl [Hi2]; · iexact Hi2
    isplitl [HO]; · iexact HO
    iexact Hm
  iintro ⟨Hb2, Hx2, Hs9, HO⟩
  iapply (wp_out_wait_sure d L b0 cc0_scratch11.sem (4 * t.val) (result mu sd X) O W (cond_5 t)) $$ [Ho0 HO]
  · isplitl [Ho0]; · iexact Ho0
    isplitl [HO]; · iexact HO
    iexact Hm
  iintro ⟨Hb0, Ho0, Hs11, HO⟩
  rw [wp_ret]; imodintro
  iapply Hk
  isplitl [Ho3]; · iexact Ho3
  isplitl [Hs14]; · iexact Hs14
  isplitl [Hi3]; · iexact Hi3
  isplitl [Ho1]; · iexact Ho1
  isplitl [Hb2]; · iexact Hb2
  isplitl [Hx2]; · iexact Hx2
  isplitl [Hs9]; · iexact Hs9
  isplitl [Hb0]; · iexact Hb0
  isplitl [Ho0]; · iexact Ho0
  isplitl [Hs11]; · iexact Hs11
  iexact HO

set_option maxHeartbeats 2000000 in
/-- The third part: buffer 0 is refilled if a chunk is left; buffer 2's chunk is rewritten and leaves; buffer 3's
    arrives; buffer 1's has left and is refilled if a chunk is left; buffer 3's chunk is rewritten. -/
theorem wp_partC (a22 a77 : BitVec 32) {Q : PUnit → sProp 𝕄} :
    iprop(MayWaits (thr d L) (none : HIx 1) O ∗ free d L b0 ∗ idle d L cc0_scratch7.sem ∗ xOpt d L (4 * t.val + 4) X
        ∗ holds d L b2 (chunk X (rowC L (4 * t.val + 2))) ∗ oCh d L f (4 * t.val + 2) ∗ idle d L cc0_scratch13.sem
        ∗ inFl d L X b3 cc0_scratch10.sem (4 * t.val + 3) ∗ outFl d L (result mu sd X) b1 cc0_scratch12.sem (4 * t.val + 1)
        ∗ xOpt d L (4 * t.val + 5) X ∗ idle d L cc0_scratch8.sem ∗ owing d L O W)
      ⊢ iprop((∀ a, iprop(inSlot d L b0 cc0_scratch7.sem (4 * t.val + 4) X ∗ outFl d L (result mu sd X) b2 cc0_scratch13.sem (4 * t.val + 2)
            ∗ xCh d L X (4 * t.val + 3) ∗ idle d L cc0_scratch10.sem ∗ oCh d L (result mu sd X) (4 * t.val + 1) ∗ idle d L cc0_scratch12.sem
            ∗ inSlot d L b1 cc0_scratch8.sem (4 * t.val + 5) X ∗ holds d L b3 (fixed mu sd (chunk X (rowC L (4 * t.val + 3)))) ∗ owing d L O W) -∗ Q a)
        -∗ wp frame (wpE (defs₀ (F := F)) 𝒱₀ (thr d L) none) Set.univ (partC L mu sd v2 t a22 a77) Q) := by
  unfold partC
  rw [k0_part3_eq_skeleton]; unfold k0_part3_skel
  simp only [Prog.lift, Prog.bind_op, Prog.bind_ret, Prog.pure_eq_ret]
  iintro ⟨#Hm, Hb0, Hs7, Hx4, Hb2, Hoc2, Hs13, Hi3, Ho1, Hx5, Hs8, HO⟩ Hk
  iapply (wp_in_start_if d L b0 cc0_scratch7.sem (4 * t.val + 4) X (cond_6 t) (off_16 L t)) $$ [Hx4 Hb0 Hs7]
  · isplitl [Hx4]; · iexact Hx4
    isplitl [Hb0]; · iexact Hb0
    iexact Hs7
  iintro Hi0
  iapply (wp_rows d L b2 mu sd (chunk X (rowC L (4 * t.val + 2))) k0_t4_loop k0_t4_ok rfl _
    (fun r _ => wp_row d L b2 mu sd _ r.val r.isLt (k0_off17_eq r) (k0_off18_eq r) (k0_off19_eq r) (k0_off20_eq r))) $$ [Hb2]
  · iexact Hb2
  iintro Hb2
  iapply (wp_out_start d L b2 cc0_scratch13.sem (4 * t.val + 2) (result mu sd X) f (off_in L t 2)) $$ [Hb2 Hoc2 Hs13]
  · isplitl [Hb2]; · iexact Hb2
    isplitl [Hoc2]; · iexact Hoc2
    iexact Hs13
  iintro Ho2
  iapply (wp_in_wait d L b3 cc0_scratch10.sem (4 * t.val + 3) X O W) $$ [Hi3 HO]
  · isplitl [Hi3]; · iexact Hi3
    isplitl [HO]; · iexact HO
    iexact Hm
  iintro ⟨Hb3, Hx3, Hs10, HO⟩
  iapply (wp_out_wait_sure d L b1 cc0_scratch12.sem (4 * t.val + 1) (result mu sd X) O W (cond_7 t)) $$ [Ho1 HO]
  · isplitl [Ho1]; · iexact Ho1
    isplitl [HO]; · iexact HO
    iexact Hm
  iintro ⟨Hb1, Ho1, Hs12, HO⟩
  iapply (wp_in_start_if d L b1 cc0_scratch8.sem (4 * t.val + 5) X (cond_8 t) (off_22 L t)) $$ [Hx5 Hb1 Hs8]
  · isplitl [Hx5]; · iexact Hx5
    isplitl [Hb1]; · iexact Hb1
    iexact Hs8
  iintro Hi1
  iapply (wp_rows d L b3 mu sd (chunk X (rowC L (4 * t.val + 3))) k0_t5_loop k0_t5_ok rfl _
    (fun r _ => wp_row d L b3 mu sd _ r.val r.isLt (k0_off23_eq r) (k0_off24_eq r) (k0_off25_eq r) (k0_off26_eq r))) $$ [Hb3]
  · iexact Hb3
  iintro Hb3
  rw [wp_ret]; imodintro
  iapply Hk
  isplitl [Hi0]; · iexact Hi0
  isplitl [Ho2]; · iexact Ho2
  isplitl [Hx3]; · iexact Hx3
  isplitl [Hs10]; · iexact Hs10
  isplitl [Ho1]; · iexact Ho1
  isplitl [Hs12]; · iexact Hs12
  isplitl [Hi1]; · iexact Hi1
  isplitl [Hb3]; · iexact Hb3
  iexact HO

end Parts

end Cert.Proof.Norm

end
-- ==== Proof.Loop.lean ====
/-
  The tile's main loop: the invariant between two trips, a trip from it to the next, and the loop as a whole.
-/
module

public import proofs.«01_k».proof.Proof.Trip

@[expose] public section

noncomputable section

namespace Cert.Proof.Norm

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers (Flight MayWaits)

variable {F : FTy → Type} [FloatOps F]

local notation "𝕄" => MT nD τ sig (HIx 1) (Elt F) ℕ UU ℕ

/-! ## The chunks ahead of the loop and the chunks behind it -/

section Runs

/-- The chunks from number `n` on. -/
def ahead (P : ℕ → sProp 𝕄) (n : ℕ) : sProp 𝕄 := bigSep (Finset.Ico n 64) P

/-- The chunks before number `n`. -/
def behind (P : ℕ → sProp 𝕄) (n : ℕ) : sProp 𝕄 := bigSep (Finset.range n) P

theorem ahead_next (P : ℕ → sProp 𝕄) (n : ℕ) (h : n < 64) : ahead P n = iprop(P n ∗ ahead P (n + 1)) := by
  unfold ahead
  rw [show Finset.Ico n 64 = insert n (Finset.Ico (n + 1) 64) by ext j; simp; omega,
    SparseCore.bigSep_insert' (by simp)]

theorem ahead_none (P : ℕ → sProp 𝕄) (n : ℕ) (h : ¬ n < 64) : ahead P n = iprop(emp) := by
  unfold ahead
  rw [Finset.Ico_eq_empty h]; rfl

theorem ahead_opt (P : ℕ → sProp 𝕄) (n : ℕ) : ahead P n = iprop((if n < 64 then P n else iprop(emp)) ∗ ahead P (n + 1)) := by
  by_cases h : n < 64
  · rw [if_pos h, ahead_next P n h]
  · rw [if_neg h, ahead_none P n h, ahead_none P (n + 1) (by omega)]
    exact (equiv_iff.mp Idealize.SL.BI.emp_sep).symm

theorem behind_next (P : ℕ → sProp 𝕄) (n : ℕ) : behind P (n + 1) = iprop(P n ∗ behind P n) := by
  unfold behind
  rw [Finset.range_add_one, SparseCore.bigSep_insert' (by simp)]

theorem behind_zero (P : ℕ → sProp 𝕄) : behind P 0 = iprop(emp) := rfl

end Runs

section Loop
variable (d : Dev nD) (L : grid0.Coords) (mu sd : S64.Idx → F .f32)
variable (X : Buf (Elt F) (xLoc d)) (f : Buf (Elt F) (oLoc d))
variable (O : CellTallies nD τ sig (HIx 1)) (W : Waits sig (HIx 1))

/-- A trip's program, at the kernel's own buffers. -/
abbrev tripBody (v2 : BitVec 32) :=
  k0_t1_body (F := F) L xV (Memref.isWhole_whole _) iV (Memref.isWhole_whole _) mV (Memref.isWhole_whole _) sV (Memref.isWhole_whole _)
    oV (Memref.isWhole_whole _) b0 (Memref.isWhole_whole _) b1 (Memref.isWhole_whole _) b2 (Memref.isWhole_whole _) b3 (Memref.isWhole_whole _)
    iT (Memref.isWhole_whole _) mT (Memref.isWhole_whole _) sT (Memref.isWhole_whole _)
    cc0_scratch7 cc0_scratch8 cc0_scratch9 cc0_scratch10 cc0_scratch11 cc0_scratch12 cc0_scratch13 cc0_scratch14
    cc0_scoped0 cc0_scoped1 cc0_scoped2 v2
    (group mu 0 (by decide)) (group mu 1 (by decide)) (group mu 2 (by decide)) (group mu 3 (by decide))
    (groupInv sd 0 (by decide)) (groupInv sd 1 (by decide)) (groupInv sd 2 (by decide)) (groupInv sd 3 (by decide))

/-- Before trip `t`: the rows of the chunks read so far, the rows still to be read, the rows of the chunks whose new value is
    in the output, the output's rows still to be written; chunks `4t` and `4t+1` on their way in, chunks `4t-2` and `4t-1` on
    their way out. -/
def inv (t : ℕ) : sProp 𝕄 :=
  iprop(MayWaits (thr d L) (none : HIx 1) O
    ∗ behind (xCh d L X) (4 * t) ∗ ahead (xCh d L X) (4 * t + 2) ∗ behind (oCh d L (result mu sd X)) (4 * t - 2) ∗ ahead (oCh d L f) (4 * t)
    ∗ inSlot d L b0 cc0_scratch7.sem (4 * t) X ∗ inSlot d L b1 cc0_scratch8.sem (4 * t + 1) X
    ∗ outSlot d L b2 cc0_scratch13.sem (4 * t - 2) (result mu sd X) (0 < t) ∗ outSlot d L b3 cc0_scratch14.sem (4 * t - 1) (result mu sd X) (0 < t)
    ∗ idle d L cc0_scratch9.sem ∗ idle d L cc0_scratch10.sem ∗ idle d L cc0_scratch11.sem ∗ idle d L cc0_scratch12.sem ∗ owing d L O W)

/-- The output chunks freed in a trip join those written before it. -/
theorem behind_freed (G : Buf (Elt F) (oLoc d)) (t : ℕ) :
    iprop(behind (oCh d L G) (4 * t - 2) ∗ oOpt d L (4 * t - 2) G (0 < t) ∗ oOpt d L (4 * t - 1) G (0 < t)) ⊢ behind (oCh d L G) (4 * t) := by
  unfold oOpt
  rcases t with _ | t
  · rw [if_neg (by omega)]
    iintro ⟨H, -, -⟩; iexact H
  · rw [if_pos (by omega), if_pos (by omega), show 4 * (t + 1) = (4 * (t + 1) - 2) + 1 + 1 by omega, behind_next, behind_next,
      show 4 * (t + 1) - 2 + 1 + 1 - 2 = 4 * (t + 1) - 2 by omega, show 4 * (t + 1) - 2 + 1 + 1 - 1 = 4 * (t + 1) - 2 + 1 by omega]
    iintro ⟨H, H0, H1⟩
    isplitl [H1]; · iexact H1
    isplitl [H0]; · iexact H0
    iexact H

theorem inSlot_of (b : Memref sig .scVector .vmem S32x512 .f32) (s : DmaSem sig) (c : ℕ) (h : c < 64) :
    inSlot d L b s c X = inFl d L X b s c := by unfold inSlot; rw [if_pos h]

theorem outSlot_of (b : Memref sig .scVector .vmem S32x512 .f32) (s : DmaSem sig) (c : ℕ) (G : Buf (Elt F) (oLoc d)) {P : Prop} [Decidable P] (h : P) :
    outSlot d L b s c G P = outFl d L G b s c := by unfold outSlot; rw [if_pos h]

theorem ahead_xOpt (n : ℕ) : ahead (xCh d L X) n = iprop(xOpt d L n X ∗ ahead (xCh d L X) (n + 1)) := by
  unfold xOpt; exact ahead_opt (xCh d L X) n

set_option maxHeartbeats 2000000 in
/-- One trip. -/
theorem wp_trip (v2 : BitVec 32) (t : Fin k0_t1_loop.trips) (a : Unit) :
    inv d L mu sd X f O W t.val
      ⊢ wp frame (wpE (defs₀ (F := F)) 𝒱₀ (thr d L) none) Set.univ (tripBody L mu sd v2 t a) fun _ => inv d L mu sd X f O W (t.val + 1) := by
  have ht : t.val < 16 := t.isLt
  unfold inv tripBody k0_t1_body
  rw [show 4 * (t.val + 1) - 2 = 4 * t.val + 1 + 1 by omega, show 4 * (t.val + 1) - 1 = 4 * t.val + 3 by omega,
    show 4 * (t.val + 1) = 4 * t.val + 3 + 1 by omega,
    inSlot_of d L X b0 _ (4 * t.val) (by omega), inSlot_of d L X b1 _ (4 * t.val + 1) (by omega),
    outSlot_of d L b2 _ (4 * t.val + 1 + 1) _ (Nat.succ_pos _), outSlot_of d L b3 _ (4 * t.val + 3) _ (Nat.succ_pos _),
    ahead_next (xCh d L X) (4 * t.val + 2) (by omega), ahead_next (xCh d L X) (4 * t.val + 3) (by omega),
    ahead_xOpt d L X (4 * t.val + 4), ahead_xOpt d L X (4 * t.val + 5),
    ahead_next (oCh d L f) (4 * t.val) (by omega), ahead_next (oCh d L f) (4 * t.val + 1) (by omega),
    ahead_next (oCh d L f) (4 * t.val + 2) (by omega), ahead_next (oCh d L f) (4 * t.val + 3) (by omega),
    behind_next (xCh d L X) (4 * t.val + 3), behind_next (xCh d L X) (4 * t.val + 2), behind_next (xCh d L X) (4 * t.val + 1),
    behind_next (xCh d L X) (4 * t.val), behind_next _ (4 * t.val + 1), behind_next _ (4 * t.val)]
  simp only [Prog.lift, Prog.bind_op, Prog.bind_ret, Prog.pure_eq_ret, wp_bind]
  iintro ⟨#Hm, HxB, ⟨Hx2, Hx3, Hx4, Hx5, HxA⟩, HoB, ⟨Hf0, Hf1, Hf2, Hf3, HoA⟩, Hi0, Hi1, Ho2, Ho3, Hs9, Hs10, Hs11, Hs12, HO⟩
  iapply (wp_partA d L mu sd v2 t X f O W) $$ [Hi0 Ho2 Hs9 Hs11 Hx2 Hf0 Hi1 HO]
  · isplitl []; · iexact Hm
    isplitl [Hi0]; · iexact Hi0
    isplitl [Ho2]; · iexact Ho2
    isplitl [Hs9]; · iexact Hs9
    isplitl [Hs11]; · iexact Hs11
    isplitl [Hx2]; · iexact Hx2
    isplitl [Hf0]; · iexact Hf0
    isplitl [Hi1]; · iexact Hi1
    iexact HO
  iintro %a1 ⟨Ho0, Hs7, Hd2, Hs13, Hi2, Hx0, Hb1, Hx1, Hs8, HO⟩
  iapply (wp_partB d L mu sd v2 t X f O W _ _ _) $$ [Ho3 Hs10 Hx3 Hb1 Hf1 Hs12 Hi2 Ho0 HO]
  · isplitl []; · iexact Hm
    isplitl [Ho3]; · iexact Ho3
    isplitl [Hs10]; · iexact Hs10
    isplitl [Hx3]; · iexact Hx3
    isplitl [Hb1]; · iexact Hb1
    isplitl [Hf1]; · iexact Hf1
    isplitl [Hs12]; · iexact Hs12
    isplitl [Hi2]; · iexact Hi2
    isplitl [Ho0]; · iexact Ho0
    iexact HO
  iintro %a2 ⟨Hd3, Hs14, Hi3, Ho1, Hb2, Hx2, Hs9, Hb0, Hd0, Hs11, HO⟩
  iapply (wp_partC d L mu sd v2 t X f O W _ _) $$ [Hb0 Hs7 Hx4 Hb2 Hf2 Hs13 Hi3 Ho1 Hx5 Hs8 HO]
  · isplitl []; · iexact Hm
    isplitl [Hb0]; · iexact Hb0
    isplitl [Hs7]; · iexact Hs7
    isplitl [Hx4]; · iexact Hx4
    isplitl [Hb2]; · iexact Hb2
    isplitl [Hf2]; · iexact Hf2
    isplitl [Hs13]; · iexact Hs13
    isplitl [Hi3]; · iexact Hi3
    isplitl [Ho1]; · iexact Ho1
    isplitl [Hx5]; · iexact Hx5
    isplitl [Hs8]; · iexact Hs8
    iexact HO
  iintro %a3 ⟨Hi0, Ho2, Hx3, Hs10, Hd1, Hs12, Hi1, Hb3, HO⟩
  iapply (wp_out_start d L b3 cc0_scratch14.sem (4 * t.val + 3) (result mu sd X) f (off_in L t 3)) $$ [Hb3 Hf3 Hs14]
  · isplitl [Hb3]; · iexact Hb3
    isplitl [Hf3]; · iexact Hf3
    iexact Hs14
  iintro Ho3
  ihave HoB := (behind_freed d L (result mu sd X) t.val) $$ [HoB Hd2 Hd3]
  · isplitl [HoB]; · iexact HoB
    isplitl [Hd2]; · iexact Hd2
    iexact Hd3
  rw [wp_ret]; imodintro
  isplitl []; · iexact Hm
  isplitl [HxB Hx0 Hx1 Hx2 Hx3]
  · isplitl [Hx3]; · iexact Hx3
    isplitl [Hx2]; · iexact Hx2
    isplitl [Hx1]; · iexact Hx1
    isplitl [Hx0]; · iexact Hx0
    iexact HxB
  isplitl [HxA]; · iexact HxA
  isplitl [HoB Hd0 Hd1]
  · isplitl [Hd1]; · iexact Hd1
    isplitl [Hd0]; · iexact Hd0
    iexact HoB
  isplitl [HoA]; · iexact HoA
  isplitl [Hi0]; · iexact Hi0
  isplitl [Hi1]; · iexact Hi1
  isplitl [Ho2]; · iexact Ho2
  isplitl [Ho3]; · iexact Ho3
  isplitl [Hs9]; · iexact Hs9
  isplitl [Hs10]; · iexact Hs10
  isplitl [Hs11]; · iexact Hs11
  isplitl [Hs12]; · iexact Hs12
  iexact HO

/-- A counted loop with an invariant over the number of trips taken. -/
theorem wp_counted (lp : Scf.Loop 32) (hok : lp.OK) (n : ℕ) (ht : lp.trips = n)
    (body : Fin lp.trips → Unit → Prog (TpuEff nD τ sig (Elt F) Λ₀ (thr d L).2) Unit) (I : ℕ → sProp 𝕄)
    (hbody : ∀ (r : Fin lp.trips) (a : Unit), I r.val ⊢ wp frame (wpE (defs₀ (F := F)) 𝒱₀ (thr d L) none) Set.univ (body r a) fun _ => I (r.val + 1))
    {α : Type} {kk : Unit → Prog (TpuEff nD τ sig (Elt F) Λ₀ (thr d L).2) α} {Q : α → sProp 𝕄} :
    I 0 ⊢ iprop((I n -∗ wp frame (wpE (defs₀ (F := F)) 𝒱₀ (thr d L) none) Set.univ (kk ⟨⟩) Q)
        -∗ wp frame (wpE (defs₀ (F := F)) 𝒱₀ (thr d L) none) Set.univ (Scf.Loop.for lp hok ⟨⟩ body >>= kk) Q) := by
  iintro H Hk
  iapply (Scf.wp_for_bind _ _ _ lp.lb lp.ub lp.st hok ⟨⟩ body (fun t _ => I t) hbody) $$ [H]
  · iexact H
  iintro %acc H
  iapply Hk
  iapply (Entails.of_eq (congrArg I ht)); iexact H

/-- The main loop. -/
theorem wp_loop (v2 : BitVec 32) {α : Type} {kk : Unit → Prog (TpuEff nD τ sig (Elt F) Λ₀ (thr d L).2) α} {Q : α → sProp 𝕄} :
    inv d L mu sd X f O W 0
      ⊢ iprop((inv d L mu sd X f O W 16 -∗ wp frame (wpE (defs₀ (F := F)) 𝒱₀ (thr d L) none) Set.univ (kk ⟨⟩) Q)
        -∗ wp frame (wpE (defs₀ (F := F)) 𝒱₀ (thr d L) none) Set.univ
          (Scf.Loop.for k0_t1_loop k0_t1_ok ⟨⟩ (tripBody L mu sd v2) >>= kk) Q) :=
  wp_counted d L k0_t1_loop k0_t1_ok 16 (by decide +kernel) (tripBody L mu sd v2) (inv d L mu sd X f O W)
    (fun t a => wp_trip d L mu sd X f O W v2 t a)

end Loop

end Cert.Proof.Norm

end
-- ==== Proof.Tables.lean ====
/-
  The three tables in a tile's memory: their copies in, and the loads that take a table apart into its four groups.
-/
module

public import proofs.«01_k».proof.Proof.Loop

@[expose] public section

noncomputable section

namespace Cert.Proof.Norm

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers (Flight MayWaits)

variable {F : FTy → Type} [FloatOps F]

local notation "𝕄" => MT nD τ sig (HIx 1) (Elt F) ℕ UU ℕ

section Tables
variable (d : Dev nD) (L : grid0.Coords) {e : EltTy}
variable (O : CellTallies nD τ sig (HIx 1)) (W : Waits sig (HIx 1))

/-- A table in the tile's memory, reading `g`. -/
def table (T : Memref sig .scVector .vmem S64 e) (g : S64.Idx → Elt F e) : sProp 𝕄 :=
  iprop(∃ f : Buf (Elt F) (T.view.loc (thr d L)), ⌜T.view.read (Elt F) f = g⌝ ∗ (T.view.loc (thr d L) ↦[T.view.set]{fullShare} f))

/-- The room for a table, at whatever it holds. -/
def room (T : Memref sig .scVector .vmem S64 e) : sProp 𝕄 :=
  iprop(∃ f : Buf (Elt F) (T.view.loc (thr d L)), T.view.loc (thr d L) ↦[T.view.set]{fullShare} f)

theorem table_room (T : Memref sig .scVector .vmem S64 e) (g : S64.Idx → Elt F e) : table d L T g ⊢ (room d L T : sProp 𝕄) := by
  unfold table room
  iintro ⟨%f, -, H⟩
  iexists f; iexact H

/-- A table copied in and awaited. -/
theorem wp_table (src : Memref sig .scVector .hbm S64 e) (T : Memref sig .scVector .vmem S64 e) (s : DmaSem sig) (q : PosShare TreeShare)
    (fs : Buf (Elt F) (src.view.loc (thr d L))) {a1 : src.view.WordExact} {a2 : T.view.WordExact}
    {a3 : DmaTarget.Typed (nD := nD) .hbm (.dma s) (DmaTarget.here (p := (thr d L).2) T)} {a4 : src.view.WordExact} {a5 : T.view.WordExact}
    {α : Type} {kk : PUnit → Prog (TpuEff nD τ sig (Elt F) Λ₀ (thr d L).2) α} {Q : α → sProp 𝕄} :
    iprop((src.view.loc (thr d L) ↦[src.view.set]{q} fs) ∗ room d L T ∗ idle d L s ∗ owing d L O W ∗ MayWaits (thr d L) (none : HIx 1) O)
      ⊢ iprop((iprop((src.view.loc (thr d L) ↦[src.view.set]{q} fs) ∗ table d L T (src.view.read (Elt F) fs) ∗ idle d L s ∗ owing d L O W)
          -∗ wp frame (wpE (defs₀ (F := F)) 𝒱₀ (thr d L) none) Set.univ (kk ⟨⟩) Q)
        -∗ wp frame (wpE (defs₀ (F := F)) 𝒱₀ (thr d L) none) Set.univ
            (.op (.enqueueDma src (.here T) (.dma s) a1 a2 a3) fun _ => .op (.waitDma2 s src T a4 a5) kk) Q) := by
  unfold room owing
  iintro ⟨Hx, ⟨%fd, Hb⟩, Hs, ⟨%W', %hW, HO⟩, Hm⟩ Hk
  iapply (Transfers.wp_dmaLocal (EC (F := F)) 𝒱₀ (thr d L) none (src := src) (dst := T)
    (q := q) (fs := fs) (fd := fd) (none : HIx 1) T.view.dmaCredit rfl (View.dmaCredit_pos _ (by decide +kernel)) (Finset.Subset.refl _)) $$ [Hx Hb Hs]
  · isplitl [Hx]; · iexact Hx
    isplitl [Hb]; · iexact Hb
    iexact Hs
  iintro HF
  iapply (Transfers.wp_waitLocalO (EC (F := F)) 𝒱₀ (thr d L) none (none : HIx 1) (N := T.view.dmaCredit) rfl) $$ [HF HO Hm]
  · isplitl [HF]; · iexact HF
    isplitl [HO]; · iexact HO
    iapply (Transfers.MayWaits.elim (.dma s)); iexact Hm
  iintro ⟨⟨Hb, Hx⟩, Hs, HO⟩
  iapply Hk
  isplitl [Hx]; · iexact Hx
  isplitl [Hb]
  · unfold table
    iexists _; isplitr [Hb]
    rotate_left
    · iexact Hb
    · ipureintro; exact View.read_write_univ _ _
  isplitl [Hs]; · iexact Hs
  iexists _; isplitr [HO]
  rotate_left
  · iexact HO
  · ipureintro
    intro p hp
    rcases Finset.mem_insert.mp hp with rfl | hp
    · exact .inr rfl
    · exact hW p hp

/-- A load of a table's group. -/
theorem wp_table_load (T : Memref sig .scVector .vmem S64 e) (g : S64.Idx → Elt F e) (k : ℕ) (hk : k < 4) {off : Fin 1 → ℕ} (hoff : off = ![16 * k])
    {hinb : ∀ a, off a + S16.size a ≤ S64.size a} {hl : T.view.LoadsAt (Rect.unit (s := S64) off S16.size hinb).toLoadRect}
    {α : Type} {kk : (S16.Idx → Elt F e) → Prog (TpuEff nD τ sig (Elt F) Λ₀ (thr d L).2) α} {Q : α → sProp 𝕄} :
    table d L T g
      ⊢ iprop((table d L T g -∗ wp frame (wpE (defs₀ (F := F)) 𝒱₀ (thr d L) none) Set.univ (kk (group g k hk)) Q)
        -∗ wp frame (wpE (defs₀ (F := F)) 𝒱₀ (thr d L) none) Set.univ
            (.op (.load T (Rect.unit (s := S64) off S16.size hinb).toLoadRect hl) kk) Q) := by
  subst hoff
  unfold table
  iintro ⟨%f, %hf, H⟩ Hk
  iapply (wp_load 𝒱₀ (thr d L) none Set.univ (View.setOn_subset_set _ _)) $$ H
  iintro H
  have hv : T.view.readAt (Elt F) (Rect.unit (s := S64) ![16 * k] S16.size hinb).toLoadRect f = group g k hk := by
    funext l
    refine (View.readAt_apply _ _ _).trans ?_
    rw [hf]
    refine congrArg g (funext fun a => ?_)
    obtain rfl : a = 0 := Subsingleton.elim _ _
    apply Fin.ext
    rw [LoadRect.idx_apply]
    show 16 * k + 1 * (l 0).val = 16 * k + (l 0).val
    omega
  rw [hv]
  iapply Hk
  iexists f; isplitr [H]
  · ipureintro; exact hf
  · iexact H

end Tables

end Cert.Proof.Norm

end
-- ==== Proof.Tile.lean ====
/-
  The tile: its scratch sorted out, its tables fetched, its band of rows taken through the loop.
-/
module

public import proofs.«01_k».proof.Proof.Tables

@[expose] public section

noncomputable section

namespace Cert.Proof.Norm

open Cert.KernelIdeal Cert.KernelIdeal.Gen

open Idealize.ShloMosaic
open Idealize.ShloMosaic.SparseCore (S V T)
open Idealize.ShloMosaic.SparseCore.Cfg (HIx ownCells ownRefs ownSems0 ownBufs mem_ownCells)
open Idealize.SL Idealize.SL.RA Idealize.SL.BI
open scoped Idealize.SL.BI
open Idealize.SL.BI.BIBase Idealize.SL.BI.Laws Idealize.SL.ProofMode Idealize.SL.Sem
open Idealize.ShloMosaic.Transfers (Flight MayWaits)

variable {F : FTy → Type} [FloatOps F]

local notation "𝕄" => MT nD τ sig (HIx 1) (Elt F) ℕ UU ℕ

/-! ## What the launch hands a tile, sorted out -/

/-- The listed members taken out of a big conjunction, in order. -/
theorem bigSep_peel {I : Type} [DecidableEq I] (Φ : I → sProp 𝕄) :
    ∀ (l : List I) (s : Finset I), l.Nodup → (∀ i ∈ l, i ∈ s) →
      bigSep s Φ = l.foldr (fun i P => iprop(Φ i ∗ P)) (bigSep (s \ l.toFinset) Φ)
  | [], s, _, _ => by simp
  | i :: l, s, hn, h => by
    rw [SparseCore.bigSep_erase' (h i (by simp)), bigSep_peel Φ l (s.erase i) hn.of_cons fun j hj =>
      Finset.mem_erase.mpr ⟨fun e => (List.nodup_cons.mp hn).1 (e ▸ hj), h j (by simp [hj])⟩]
    rw [show s.erase i \ l.toFinset = s \ (i :: l).toFinset by ext j; simp; tauto]
    rfl

/-- The semaphores of the tile's copies. -/
def sems : List (DmaSem sig) :=
  [cc0_scratch7.sem, cc0_scratch8.sem, cc0_scratch9.sem, cc0_scratch10.sem, cc0_scratch11.sem, cc0_scratch12.sem, cc0_scratch13.sem,
    cc0_scratch14.sem, cc0_scoped0.sem, cc0_scoped1.sem, cc0_scoped2.sem]

/-- The buffers of the tile. -/
def bufs : List (Ref sig .scVector) :=
  [cc0_scratch0, cc0_scratch1, cc0_scratch2, cc0_scratch3, cc0_scratch4, cc0_scratch5, cc0_scratch6]

theorem sems_nodup : sems.Nodup := by decide +kernel
theorem sems_scoped : ∀ s ∈ sems, (SemLoc.dma s : SemLoc sig).isScoped .scVector = true := by decide +kernel
theorem bufs_nodup : bufs.Nodup := by decide +kernel

section Tile
variable (d : Dev nD) (L : grid0.Coords)

/-- The tile's own semaphores other than those. -/
def otherSems : sProp 𝕄 :=
  bigSep (ownCells (thr d L) \ (sems.map fun s => ((thr d L, .dma s) : GSem nD τ sig)).toFinset) fun g => semVal g 0

/-- The tile's own buffers other than those. -/
def otherBufs : sProp 𝕄 :=
  bigSep (ownRefs (τ := τ) (thr d L).2 \ (bufs.map fun b => (thr d L).2.devRef b).toFinset) fun b => iprop(∃ f, ((d, b) : Loc nD τ sig) ↦{fullShare} f)

theorem ownSems_tile :
    (ownSems0 (thr d L) : sProp 𝕄)
      = iprop(idle d L cc0_scratch7.sem ∗ idle d L cc0_scratch8.sem ∗ idle d L cc0_scratch9.sem ∗ idle d L cc0_scratch10.sem
          ∗ idle d L cc0_scratch11.sem ∗ idle d L cc0_scratch12.sem ∗ idle d L cc0_scratch13.sem ∗ idle d L cc0_scratch14.sem
          ∗ idle d L cc0_scoped0.sem ∗ idle d L cc0_scoped1.sem ∗ idle d L cc0_scoped2.sem ∗ otherSems d L) := by
  unfold SparseCore.Cfg.ownSems0
  refine (bigSep_peel _ (sems.map fun s => ((thr d L, .dma s) : GSem nD τ sig)) _
    (List.Nodup.map (fun _ _ h => SemLoc.dma.inj (Prod.mk.inj h).2) sems_nodup) fun i hi => ?_).trans ?_
  swap; · unfold otherSems sems; simp only [List.map_cons, List.map_nil, List.foldr_cons, List.foldr_nil]
  obtain ⟨s, hs, rfl⟩ := List.mem_map.mp hi
  exact mem_ownCells.mpr ⟨rfl, sems_scoped s hs⟩

theorem ownBufs_tile :
    (ownBufs (thr d L) : sProp 𝕄)
      = iprop(free d L b0 ∗ free d L b1 ∗ free d L b2 ∗ free d L b3 ∗ room d L iT ∗ room d L mT ∗ room d L sT ∗ otherBufs d L) := by
  unfold SparseCore.Cfg.ownBufs free room
  simp only [Memref.view_whole, View.set_whole]
  refine (bigSep_peel _ (bufs.map fun b => (thr d L).2.devRef b) _
    (List.Nodup.map (Proc.devRef_injective _) bufs_nodup) fun i hi => ?_).trans rfl
  obtain ⟨b, hb, rfl⟩ := List.mem_map.mp hi
  simp only [bufs, List.mem_cons, List.not_mem_nil, _root_.or_false] at hb
  rcases hb with rfl | rfl | rfl | rfl | rfl | rfl | rfl <;> exact SparseCore.Cfg.mem_ownRefs_of_owner rfl

/-! ## The tile's rows are its chunks' -/

theorem band_eq : rowsSet (row0 L) 2048 = (Finset.Ico 0 64).biUnion fun c => rowsSet (rowC L c) 32 := by
  ext i
  simp only [Finset.mem_biUnion, Finset.mem_Ico, mem_rowsSet, rowC]
  constructor
  · intro h; exact ⟨((i 0).val - row0 L) / 32, by omega, by omega⟩
  · rintro ⟨c, hc, h⟩; omega

theorem band_disjoint : ∀ c ∈ Finset.Ico 0 64, ∀ c' ∈ Finset.Ico 0 64, c ≠ c' → Disjoint (rowsSet (rowC L c) 32) (rowsSet (rowC L c') 32) :=
  fun c _ c' _ h => rowsSet_disjoint (by unfold rowC; omega)

theorem x_band (X : Buf (Elt F) (xLoc d)) : (xLoc d ↦[rowsSet (row0 L) 2048]{fullShare} X : sProp 𝕄) = ahead (xCh d L X) 0 := by
  unfold ahead xCh
  rw [band_eq, pointsTo_biUnion _ _ (band_disjoint L)]
theorem o_band (f : Buf (Elt F) (oLoc d)) : (oLoc d ↦[rowsSet (row0 L) 2048]{fullShare} f : sProp 𝕄) = ahead (oCh d L f) 0 := by
  unfold ahead oCh
  rw [band_eq, pointsTo_biUnion _ _ (band_disjoint L)]

theorem off_first : k0_off1 L 0#32 = ![rowC L 0, 0] :=
  ((by decide +kernel : ∀ i : grid0.Coords, k0_off1 i 0#32 = ![4096 * (i 1).val + 2048 * (i 0).val + 32 * 0, 0]) L).trans rfl
theorem off_second : k0_off1 L 32#32 = ![rowC L 1, 0] :=
  ((by decide +kernel : ∀ i : grid0.Coords, k0_off1 i 32#32 = ![4096 * (i 1).val + 2048 * (i 0).val + 32 * 1, 0]) L).trans rfl

/-! ## The first part: the tables -/

/-- The tables as the tile is lent them. -/
def lent (q : PosShare TreeShare) (I : Buf (Elt F) (iLoc d)) (mu : Buf (Elt F) (mLoc d)) (sd : Buf (Elt F) (sLoc d)) : sProp 𝕄 :=
  iprop((iLoc d ↦{q} I) ∗ (mLoc d ↦{q} mu) ∗ (sLoc d ↦{q} sd))

abbrev partD :=
  k0_part4 (F := F) L xV (Memref.isWhole_whole _) iV (Memref.isWhole_whole _) mV (Memref.isWhole_whole _) sV (Memref.isWhole_whole _)
    oV (Memref.isWhole_whole _) b0 (Memref.isWhole_whole _) b1 (Memref.isWhole_whole _) b2 (Memref.isWhole_whole _) b3 (Memref.isWhole_whole _)
    iT (Memref.isWhole_whole _) mT (Memref.isWhole_whole _) sT (Memref.isWhole_whole _)
    cc0_scratch7 cc0_scratch8 cc0_scratch9 cc0_scratch10 cc0_scratch11 cc0_scratch12 cc0_scratch13 cc0_scratch14
    cc0_scoped0 cc0_scoped1 cc0_scoped2

variable (q : PosShare TreeShare) (X : Buf (Elt F) (xLoc d)) (I : Buf (Elt F) (iLoc d)) (mu : Buf (Elt F) (mLoc d)) (sd : Buf (Elt F) (sLoc d))
variable (O : CellTallies nD τ sig (HIx 1)) (W : Waits sig (HIx 1))

theorem wp_partD {Q : (Σ' (_ : BitVec 32) (_ : Vec F S16 .f32) (_ : Vec F S16 .f32) (_ : Vec F S16 .f32) (_ : Vec F S16 .f32)
      (_ : FVec F S16 .f32) (_ : FVec F S16 .f32) (_ : FVec F S16 .f32), FVec F S16 .f32) → sProp 𝕄} :
    iprop(MayWaits (thr d L) (none : HIx 1) O ∗ lent d q I mu sd ∗ room d L iT ∗ room d L mT ∗ room d L sT
        ∗ idle d L cc0_scoped0.sem ∗ idle d L cc0_scoped1.sem ∗ idle d L cc0_scoped2.sem
        ∗ xCh d L X 0 ∗ free d L b0 ∗ idle d L cc0_scratch7.sem ∗ owing d L O W)
      ⊢ iprop((∀ v2, iprop(lent d q I mu sd ∗ room d L iT ∗ room d L mT ∗ room d L sT
            ∗ idle d L cc0_scoped0.sem ∗ idle d L cc0_scoped1.sem ∗ idle d L cc0_scoped2.sem
            ∗ inFl d L X b0 cc0_scratch7.sem 0 ∗ owing d L O W)
          -∗ Q ⟨v2, group mu 0 (by decide), group mu 1 (by decide), group mu 2 (by decide), group mu 3 (by decide),
              groupInv sd 0 (by decide), groupInv sd 1 (by decide), groupInv sd 2 (by decide), groupInv sd 3 (by decide)⟩)
        -∗ wp frame (wpE (defs₀ (F := F)) 𝒱₀ (thr d L) none) Set.univ (partD L) Q) := by
  unfold partD
  rw [k0_part4_eq_skeleton]; unfold k0_part4_skel
  simp only [Prog.lift, Prog.bind_op, Prog.bind_ret, Prog.pure_eq_ret]
  have eI : (iLoc d ↦{q} I : sProp 𝕄) = (iV.view.loc (thr d L) ↦[iV.view.set]{q} I) := by rw [show iV.view.set = Finset.univ from View.set_whole _]
  have eM : (mLoc d ↦{q} mu : sProp 𝕄) = (mV.view.loc (thr d L) ↦[mV.view.set]{q} mu) := by rw [show mV.view.set = Finset.univ from View.set_whole _]
  have eS : (sLoc d ↦{q} sd : sProp 𝕄) = (sV.view.loc (thr d L) ↦[sV.view.set]{q} sd) := by rw [show sV.view.set = Finset.univ from View.set_whole _]
  unfold lent
  rw [eI, eM, eS]
  iintro ⟨#Hm, ⟨HI, HM, HS⟩, HiT, HmT, HsT, Hc0, Hc1, Hc2, Hx, Hb, Hs7, HO⟩ Hk
  iapply (wp_table d L O W iV iT cc0_scoped0.sem q I) $$ [HI HiT Hc0 HO]
  · isplitl [HI]; · iexact HI
    isplitl [HiT]; · iexact HiT
    isplitl [Hc0]; · iexact Hc0
    isplitl [HO]; · iexact HO
    iexact Hm
  iintro ⟨HI, HiT, Hc0, HO⟩
  iapply (wp_table d L O W mV mT cc0_scoped1.sem q mu) $$ [HM HmT Hc1 HO]
  · isplitl [HM]; · iexact HM
    isplitl [HmT]; · iexact HmT
    isplitl [Hc1]; · iexact Hc1
    isplitl [HO]; · iexact HO
    iexact Hm
  iintro ⟨HM, HmT, Hc1, HO⟩
  iapply (wp_table d L O W sV sT cc0_scoped2.sem q sd) $$ [HS HsT Hc2 HO]
  · isplitl [HS]; · iexact HS
    isplitl [HsT]; · iexact HsT
    isplitl [Hc2]; · iexact Hc2
    isplitl [HO]; · iexact HO
    iexact Hm
  iintro ⟨HS, HsT, Hc2, HO⟩
  iapply (wp_table_load d L iT I 0 (by decide) rfl) $$ [HiT]
  · iexact HiT
  iintro HiT
  iapply (wp_table_load d L iT I 1 (by decide) rfl) $$ [HiT]
  · iexact HiT
  iintro HiT
  iapply (wp_table_load d L iT I 2 (by decide) rfl) $$ [HiT]
  · iexact HiT
  iintro HiT
  iapply (wp_table_load d L iT I 3 (by decide) rfl) $$ [HiT]
  · iexact HiT
  iintro HiT
  iapply (wp_table_load d L mT mu 0 (by decide) rfl) $$ [HmT]
  · iexact HmT
  iintro HmT
  iapply (wp_table_load d L mT mu 1 (by decide) rfl) $$ [HmT]
  · iexact HmT
  iintro HmT
  iapply (wp_table_load d L mT mu 2 (by decide) rfl) $$ [HmT]
  · iexact HmT
  iintro HmT
  iapply (wp_table_load d L mT mu 3 (by decide) rfl) $$ [HmT]
  · iexact HmT
  iintro HmT
  iapply (wp_table_load d L sT sd 0 (by decide) rfl) $$ [HsT]
  · iexact HsT
  iintro HsT
  iapply (wp_table_load d L sT sd 1 (by decide) rfl) $$ [HsT]
  · iexact HsT
  iintro HsT
  iapply (wp_table_load d L sT sd 2 (by decide) rfl) $$ [HsT]
  · iexact HsT
  iintro HsT
  iapply (wp_table_load d L sT sd 3 (by decide) rfl) $$ [HsT]
  · iexact HsT
  iintro HsT
  iapply (wp_in_start d L b0 cc0_scratch7.sem 0 X (off_first L)) $$ [Hx Hb Hs7]
  · isplitl [Hx]; · iexact Hx
    isplitl [Hb]; · iexact Hb
    iexact Hs7
  iintro Hi0
  rw [wp_ret]; imodintro
  rw [show k0_pay17 (group sd 0 (by decide)) = groupInv sd 0 (by decide) from rfl, show k0_pay18 (group sd 1 (by decide)) = groupInv sd 1 (by decide) from rfl,
    show k0_pay19 (group sd 2 (by decide)) = groupInv sd 2 (by decide) from rfl, show k0_pay20 (group sd 3 (by decide)) = groupInv sd 3 (by decide) from rfl]
  iapply Hk
  isplitl [HI HM HS]
  · isplitl [HI]; · iexact HI
    isplitl [HM]; · iexact HM
    iexact HS
  isplitl [HiT]; · iapply (table_room d L iT _) $$ HiT
  isplitl [HmT]; · iapply (table_room d L mT _) $$ HmT
  isplitl [HsT]; · iapply (table_room d L sT _) $$ HsT
  isplitl [Hc0]; · iexact Hc0
  isplitl [Hc1]; · iexact Hc1
  isplitl [Hc2]; · iexact Hc2
  isplitl [Hi0]; · iexact Hi0
  iexact HO

end Tile

end Cert.Proof.Norm

end
-- ==== Proof.Body.lean ====
/-
  The tile's whole body: tables, loop and the last two copies out.
-/
module

public import proofs.«01_k».proof.Proof.Tile

@[expose] public section

noncomputable section

namespace Cert.Proof.Norm

open Cert.KernelIdeal Cert.KernelIdeal.Gen

open Idealize.ShloMosaic
open Idealize.ShloMosaic.SparseCore (S V T)
open Idealize.ShloMosaic.SparseCore.Cfg (HIx ownCells ownRefs ownSems0 ownBufs mem_ownCells)
open Idealize.SL Idealize.SL.RA Idealize.SL.BI
open scoped Idealize.SL.BI
open Idealize.SL.BI.BIBase Idealize.SL.BI.Laws Idealize.SL.ProofMode Idealize.SL.Sem
open Idealize.ShloMosaic.Transfers (Flight MayWaits)

variable {F : FTy → Type} [FloatOps F]

local notation "𝕄" => MT nD τ sig (HIx 1) (Elt F) ℕ UU ℕ

section Body
variable (d : Dev nD) (L : grid0.Coords)
variable (q : PosShare TreeShare) (X : Buf (Elt F) (xLoc d)) (f : Buf (Elt F) (oLoc d))
variable (I : Buf (Elt F) (iLoc d)) (mu : Buf (Elt F) (mLoc d)) (sd : Buf (Elt F) (sLoc d))
variable (O : CellTallies nD τ sig (HIx 1)) (W : Waits sig (HIx 1))

/-- What a tile is handed: its band of the input, its band of the output at `g`, and its shares of the tables. -/
def hand (g : Buf (Elt F) (oLoc d)) : sProp 𝕄 :=
  iprop((xLoc d ↦[rowsSet (row0 L) 2048]{fullShare} X) ∗ (oLoc d ↦[rowsSet (row0 L) 2048]{fullShare} g) ∗ lent d q I mu sd)

/-- Chunks read by the time the loop ends are all of them. -/
theorem behind_all (P : ℕ → sProp 𝕄) : behind P 64 = ahead P 0 := by
  unfold behind ahead; rw [Finset.range_eq_Ico]

theorem inv_start :
    iprop(MayWaits (thr d L) (none : HIx 1) O ∗ ahead (xCh d L X) 2 ∗ ahead (oCh d L f) 0
        ∗ inFl d L X b0 cc0_scratch7.sem 0 ∗ inFl d L X b1 cc0_scratch8.sem 1 ∗ free d L b2 ∗ free d L b3
        ∗ idle d L cc0_scratch9.sem ∗ idle d L cc0_scratch10.sem ∗ idle d L cc0_scratch11.sem ∗ idle d L cc0_scratch12.sem
        ∗ idle d L cc0_scratch13.sem ∗ idle d L cc0_scratch14.sem ∗ owing d L O W)
      ⊢ inv d L mu sd X f O W 0 := by
  unfold inv
  rw [show 4 * 0 = 0 from rfl, inSlot_of d L X b0 _ 0 (by omega), inSlot_of d L X b1 _ (0 + 1) (by omega)]
  unfold outSlot
  rw [if_neg (by omega), if_neg (by omega), show 0 - 2 = 0 from rfl, behind_zero, behind_zero]
  iintro ⟨Hm, Hx, Ho, Hi0, Hi1, Hb2, Hb3, Hs9, Hs10, Hs11, Hs12, Hs13, Hs14, HO⟩
  isplitl [Hm]; · iexact Hm
  isplitl []; · iempintro
  isplitl [Hx]; · iexact Hx
  isplitl []; · iempintro
  isplitl [Ho]; · iexact Ho
  isplitl [Hi0]; · iexact Hi0
  isplitl [Hi1]; · iexact Hi1
  isplitl [Hb2 Hs13]
  · isplitl [Hb2]; · iexact Hb2
    iexact Hs13
  isplitl [Hb3 Hs14]
  · isplitl [Hb3]; · iexact Hb3
    iexact Hs14
  isplitl [Hs9]; · iexact Hs9
  isplitl [Hs10]; · iexact Hs10
  isplitl [Hs11]; · iexact Hs11
  isplitl [Hs12]; · iexact Hs12
  iexact HO

theorem inv_end :
    inv d L mu sd X f O W 16
      ⊢ iprop(ahead (xCh d L X) 0 ∗ behind (oCh d L (result mu sd X)) 62
        ∗ free d L b0 ∗ idle d L cc0_scratch7.sem ∗ free d L b1 ∗ idle d L cc0_scratch8.sem
        ∗ outFl d L (result mu sd X) b2 cc0_scratch13.sem 62 ∗ outFl d L (result mu sd X) b3 cc0_scratch14.sem 63
        ∗ idle d L cc0_scratch9.sem ∗ idle d L cc0_scratch10.sem ∗ idle d L cc0_scratch11.sem ∗ idle d L cc0_scratch12.sem ∗ owing d L O W) := by
  unfold inv
  rw [show 4 * 16 = 64 from rfl, show 64 - 2 = 62 from rfl, show 64 - 1 = 63 from rfl, behind_all, outSlot_of d L b2 _ 62 _ (by omega), outSlot_of d L b3 _ 63 _ (by omega)]
  unfold inSlot
  rw [if_neg (by omega), if_neg (by omega)]
  iintro ⟨-, Hx, -, Ho, -, ⟨Hb0, Hs7⟩, ⟨Hb1, Hs8⟩, Ho2, Ho3, Hs9, Hs10, Hs11, Hs12, HO⟩
  isplitl [Hx]; · iexact Hx
  isplitl [Ho]; · iexact Ho
  isplitl [Hb0]; · iexact Hb0
  isplitl [Hs7]; · iexact Hs7
  isplitl [Hb1]; · iexact Hb1
  isplitl [Hs8]; · iexact Hs8
  isplitl [Ho2]; · iexact Ho2
  isplitl [Ho3]; · iexact Ho3
  isplitl [Hs9]; · iexact Hs9
  isplitl [Hs10]; · iexact Hs10
  isplitl [Hs11]; · iexact Hs11
  isplitl [Hs12]; · iexact Hs12
  iexact HO

/-- The body. -/
theorem tile_body (hF : (K (F := F)).Facts) (hO : ∀ g, O g none = 0) :
    iprop(levAts (K (F := F)).L (K (F := F)).lev ∗ hand d L q X I mu sd f
        ∗ scopedBufs (thr d L) ∗ scopedSems0 (thr d L) ∗ owes (thr d L) O W)
      ⊢ wp frame (wpE (defs₀ (F := F)) 𝒱₀ (thr d L) none) Set.univ
          (cc0__sc_body L xV (Memref.isWhole_whole _) iV (Memref.isWhole_whole _) mV (Memref.isWhole_whole _) sV (Memref.isWhole_whole _)
            oV (Memref.isWhole_whole _) b0 (Memref.isWhole_whole _) b1 (Memref.isWhole_whole _) b2 (Memref.isWhole_whole _) b3 (Memref.isWhole_whole _)
            iT (Memref.isWhole_whole _) mT (Memref.isWhole_whole _) sT (Memref.isWhole_whole _)
            cc0_scratch7 cc0_scratch8 cc0_scratch9 cc0_scratch10 cc0_scratch11 cc0_scratch12 cc0_scratch13 cc0_scratch14
            cc0_scoped0 cc0_scoped1 cc0_scoped2)
          fun _ => iprop(hand d L q X I mu sd (result mu sd X) ∗ scopedBufs (thr d L) ∗ scopedSems0 (thr d L) ∗ owing d L O W) := by
  rw [cc0__sc_body_eq_skeleton]; unfold cc0__sc_body_skel hand
  simp only [Prog.lift, Prog.bind_op, Prog.bind_ret, Prog.pure_eq_ret]
  rw [(K (F := F)).scopedBufs_V hF d (cV L) (jV L), SparseCore.Cfg.scopedSems0_V (Val := Elt F) d (cV L) (jV L), ownSems_tile, ownBufs_tile,
    x_band, o_band, o_band, wp_bind]
  iintro ⟨#Hlv, ⟨Hx, Ho, Ht⟩, ⟨Hb0, Hb1, Hb2, Hb3, HiT, HmT, HsT, Hbufs⟩,
    ⟨Hs7, Hs8, Hs9, Hs10, Hs11, Hs12, Hs13, Hs14, Hc0, Hc1, Hc2, Hsems⟩, HO⟩
  ihave #Hm := ((K (F := F)).mayWaits_none (thr := thr d L) hO) $$ Hlv
  ihave Hx := (Entails.of_eq ((ahead_next (xCh d L X) 0 (by omega)).trans (congrArg (fun P => iprop(xCh d L X 0 ∗ P)) (ahead_next (xCh d L X) (0 + 1) (by omega))))) $$ Hx
  icases Hx with ⟨Hx0, Hx1, Hx⟩
  ihave HO := (show (owes (thr d L) O W : sProp 𝕄) ⊢ owing d L O W from by
    unfold owing
    iintro H
    iexists W; isplitr [H]
    · ipureintro; exact fun p hp => .inl hp
    · iexact H) $$ HO
  iapply (wp_partD d L q X I mu sd O W) $$ [Ht HiT HmT HsT Hc0 Hc1 Hc2 Hx0 Hb0 Hs7 HO]
  · isplitl []; · iexact Hm
    isplitl [Ht]; · iexact Ht
    isplitl [HiT]; · iexact HiT
    isplitl [HmT]; · iexact HmT
    isplitl [HsT]; · iexact HsT
    isplitl [Hc0]; · iexact Hc0
    isplitl [Hc1]; · iexact Hc1
    isplitl [Hc2]; · iexact Hc2
    isplitl [Hx0]; · iexact Hx0
    isplitl [Hb0]; · iexact Hb0
    isplitl [Hs7]; · iexact Hs7
    iexact HO
  iintro %v2 ⟨Ht, HiT, HmT, HsT, Hc0, Hc1, Hc2, Hi0, HO⟩
  dsimp only
  iapply (wp_in_start d L b1 cc0_scratch8.sem 1 X (off_second L)) $$ [Hx1 Hb1 Hs8]
  · isplitl [Hx1]; · iexact Hx1
    isplitl [Hb1]; · iexact Hb1
    iexact Hs8
  iintro Hi1
  ihave Hinv := (inv_start d L X f mu sd O W) $$ [Hx Ho Hi0 Hi1 Hb2 Hb3 Hs9 Hs10 Hs11 Hs12 Hs13 Hs14 HO]
  · isplitl []; · iexact Hm
    isplitl [Hx]; · iexact Hx
    isplitl [Ho]; · iexact Ho
    isplitl [Hi0]; · iexact Hi0
    isplitl [Hi1]; · iexact Hi1
    isplitl [Hb2]; · iexact Hb2
    isplitl [Hb3]; · iexact Hb3
    isplitl [Hs9]; · iexact Hs9
    isplitl [Hs10]; · iexact Hs10
    isplitl [Hs11]; · iexact Hs11
    isplitl [Hs12]; · iexact Hs12
    isplitl [Hs13]; · iexact Hs13
    isplitl [Hs14]; · iexact Hs14
    iexact HO
  iapply (wp_loop d L mu sd X f O W v2) $$ Hinv
  iintro Hinv
  ihave Hinv := (inv_end d L X f mu sd O W) $$ Hinv
  icases Hinv with ⟨Hx, Ho, Hb0, Hs7, Hb1, Hs8, Ho2, Ho3, Hs9, Hs10, Hs11, Hs12, HO⟩
  iapply (wp_out_wait d L b2 cc0_scratch13.sem 62 (result mu sd X) O W) $$ [Ho2 HO]
  · isplitl [Ho2]; · iexact Ho2
    isplitl [HO]; · iexact HO
    iexact Hm
  iintro ⟨Hb2, Ho2, Hs13, HO⟩
  iapply (wp_out_wait d L b3 cc0_scratch14.sem 63 (result mu sd X) O W) $$ [Ho3 HO]
  · isplitl [Ho3]; · iexact Ho3
    isplitl [HO]; · iexact HO
    iexact Hm
  iintro ⟨Hb3, Ho3, Hs14, HO⟩
  rw [wp_ret]; imodintro
  isplitl [Hx Ho Ho2 Ho3 Ht]
  · isplitl [Hx]; · iexact Hx
    isplitl [Ho Ho2 Ho3]
    · iapply (Entails.of_eq (((behind_next (oCh d L (result mu sd X)) 63).trans
        (congrArg (fun P => iprop(oCh d L (result mu sd X) 63 ∗ P)) (behind_next _ 62))).symm.trans (behind_all (oCh d L (result mu sd X)))))
      isplitl [Ho3]; · iexact Ho3
      isplitl [Ho2]; · iexact Ho2
      iexact Ho
    iexact Ht
  isplitl [Hb0 Hb1 Hb2 Hb3 HiT HmT HsT Hbufs]
  · isplitl [Hb0]; · iexact Hb0
    isplitl [Hb1]; · iexact Hb1
    isplitl [Hb2]; · iexact Hb2
    isplitl [Hb3]; · iexact Hb3
    isplitl [HiT]; · iexact HiT
    isplitl [HmT]; · iexact HmT
    isplitl [HsT]; · iexact HsT
    iexact Hbufs
  isplitl [Hs7 Hs8 Hs9 Hs10 Hs11 Hs12 Hs13 Hs14 Hc0 Hc1 Hc2 Hsems]
  · isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hs14]; · iexact Hs14
    isplitl [Hc0]; · iexact Hc0
    isplitl [Hc1]; · iexact Hc1
    isplitl [Hc2]; · iexact Hc2
    iexact Hsems
  iexact HO

end Body

end Cert.Proof.Norm

end
-- ==== Proof.Launch.lean ====
/-
  The launch: what the call hands each tile and takes back, `@main` on the TensorCore, and the program's run over any
  float values — it ends, the four arguments unchanged, the result `result` of them, every semaphore at zero.
-/
module

public import proofs.«01_k».proof.Proof.Body

@[expose] public section

noncomputable section

namespace Cert.Proof.Norm

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (dealOf pointsTo_deal)

variable {F : FTy → Type}

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable [FloatOps F]

/-! ## The arrays, dealt to the tiles -/

/-- The tile `s` of SparseCore `c`, as coordinates of the grid. -/
def tileAt (c : Fin 2) (s : Fin 16) : grid0.Coords := fun
  | 0 => c
  | 1 => s
  | ⟨_ + 2, h⟩ => absurd h (Nat.not_lt.2 (Nat.le_add_left _ _))

/-- That tile's share of a table: the whole dealt to the two SparseCores, and each part to its 16 tiles. -/
def part (c : Fin 2) (s : Fin 16) : PosShare TreeShare := dealOf (dealOf fullShare Finset.univ c) Finset.univ s

/-- A tile's band of rows. -/
def band (p : Fin 2 × Fin 16) : Finset S65536x512.Idx := rowsSet (row0 (tileAt p.1 p.2)) 2048

theorem mem_band (p : Fin 2 × Fin 16) (i : S65536x512.Idx) :
    i ∈ band p ↔ 4096 * p.2.val + 2048 * p.1.val ≤ (i 0).val ∧ (i 0).val < 4096 * p.2.val + 2048 * p.1.val + 2048 := mem_rowsSet

theorem bands_disjoint : ∀ p ∈ (Finset.univ : Finset (Fin 2 × Fin 16)), ∀ p' ∈ (Finset.univ : Finset (Fin 2 × Fin 16)), p ≠ p' → Disjoint (band p) (band p') := by
  intro p _ p' _ hne
  refine Finset.disjoint_left.mpr fun i hi hi' => hne ?_
  rw [mem_band] at hi hi'
  have h1 := p.1.isLt
  have h2 := p'.1.isLt
  refine Prod.ext (Fin.ext ?_) (Fin.ext ?_) <;> omega

theorem bands_cover : (Finset.univ : Finset (Fin 2 × Fin 16)).biUnion band = Finset.univ := by
  refine Finset.eq_univ_of_forall fun i => ?_
  have hi : (i 0).val < 65536 := (i 0).isLt
  refine Finset.mem_biUnion.mpr ⟨(⟨(i 0).val / 2048 % 2, by omega⟩, ⟨(i 0).val / 4096, by omega⟩), Finset.mem_univ _, ?_⟩
  rw [mem_band]
  dsimp only
  omega

theorem univ_pairs : (Finset.univ : Finset (Fin 2 × Fin 16)) = Finset.univ ×ˢ Finset.univ := Finset.univ_product_univ.symm

theorem x_deal (d : Dev nD) (X : Buf (Elt F) (xLoc d)) :
    (xLoc d ↦{fullShare} X : sProp 𝕄)
      = bigSep Finset.univ fun c : Fin 2 => bigSep Finset.univ fun s : Fin 16 => xLoc d ↦[rowsSet (row0 (tileAt c s)) 2048]{fullShare} X := by
  have h : (xLoc d ↦{fullShare} X : sProp 𝕄) = bigSep Finset.univ fun p => xLoc d ↦[band p]{fullShare} X := by
    rw [← pointsTo_biUnion Finset.univ (ℓ := xLoc d) band bands_disjoint, bands_cover]
  rw [h, univ_pairs]
  exact SparseCore.bigSep_product _ _ _

theorem o_deal (d : Dev nD) (g : Buf (Elt F) (oLoc d)) :
    (oLoc d ↦{fullShare} g : sProp 𝕄)
      = bigSep Finset.univ fun c : Fin 2 => bigSep Finset.univ fun s : Fin 16 => oLoc d ↦[rowsSet (row0 (tileAt c s)) 2048]{fullShare} g := by
  have h : (oLoc d ↦{fullShare} g : sProp 𝕄) = bigSep Finset.univ fun p => oLoc d ↦[band p]{fullShare} g := by
    rw [← pointsTo_biUnion Finset.univ (ℓ := oLoc d) band bands_disjoint, bands_cover]
  rw [h, univ_pairs]
  exact SparseCore.bigSep_product _ _ _

theorem table_deal (ℓ : Loc nD τ sig) (g : Buf (Elt F) ℓ) :
    (ℓ ↦{fullShare} g : sProp 𝕄) = bigSep Finset.univ fun c : Fin 2 => bigSep Finset.univ fun s : Fin 16 => ℓ ↦{part c s} g :=
  (pointsTo_deal (Finset.univ : Finset (Fin 2)) Finset.univ_nonempty fullShare).trans
    (bigSep_congr fun c _ => pointsTo_deal (Finset.univ : Finset (Fin 16)) Finset.univ_nonempty (dealOf fullShare Finset.univ c))

section Launch
variable (m : (ℓ : Loc nD τ sig) → Buf (Elt F) ℓ) (ρ : Dev nD → PrngReg)

/-- The result of the launch's arguments. -/
def goal (d : Dev nD) : Buf (Elt F) (oLoc d) := result (m (mLoc d)) (m (sLoc d)) (m (xLoc d))

/-- What a tile is handed of the launch's arrays, the output at `g`. -/
def piece (d : Dev nD) (c : Fin 2) (s : Fin 16) (g : Buf (Elt F) (oLoc d)) : sProp 𝕄 :=
  hand d (tileAt c s) (part c s) (m (xLoc d)) (m (iLoc d)) (m (mLoc d)) (m (sLoc d)) g

/-- The pieces of a SparseCore's 16 tiles. -/
def pieces (d : Dev nD) (c : Fin 2) (g : Buf (Elt F) (oLoc d)) : sProp 𝕄 :=
  bigSep Finset.univ fun s : Fin 16 => piece m d c s g

/-- All five arrays, the output at `g`. -/
def arrays (d : Dev nD) (g : Buf (Elt F) (oLoc d)) : sProp 𝕄 :=
  iprop((xLoc d ↦{fullShare} m (xLoc d)) ∗ (oLoc d ↦{fullShare} g)
    ∗ (iLoc d ↦{fullShare} m (iLoc d)) ∗ (mLoc d ↦{fullShare} m (mLoc d)) ∗ (sLoc d ↦{fullShare} m (sLoc d)))

theorem arrays_deal (d : Dev nD) (g : Buf (Elt F) (oLoc d)) :
    arrays m d g = bigSep Finset.univ fun c : Fin 2 => pieces m d c g := by
  unfold arrays pieces piece hand lent
  rw [x_deal, o_deal, table_deal (iLoc d), table_deal (mLoc d), table_deal (sLoc d)]
  simp only [bigSep_sep']

instance piece_storable (d : Dev nD) (c : Fin 2) (s : Fin 16) (g : Buf (Elt F) (oLoc d)) :
    BI.Storable (upEmb : UEmb _ 𝕄) (piece m d c s g) := by unfold piece hand lent; infer_instance
instance pieces_storable (d : Dev nD) (c : Fin 2) (g : Buf (Elt F) (oLoc d)) :
    BI.Storable (upEmb : UEmb _ 𝕄) (pieces m d c g) := by unfold pieces; infer_instance

/-! ## The call's payloads -/

def P : (K (F := F)).Pay (nD := nD) (Val := Elt F) (Name := ℕ) (U := UU) where
  st := fun q d c => match q with | 0 => pieces m d c (m (oLoc d))
  dn := fun q d c => match q with | 0 => pieces m d c (goal m d)
  go := fun q d c s => match q with | 0 => piece m d c s (m (oLoc d))
  td := fun q d c s => match q with | 0 => piece m d c s (goal m d)
  x := fun _ _ => iprop(emp)

instance P_storable : (P (F := F) m).IsStorable where
  st q d c := match q with | 0 => pieces_storable m d c (m (oLoc d))
  dn q d c := match q with | 0 => pieces_storable m d c (goal m d)
  go q d c s := match q with | 0 => piece_storable m d c s (m (oLoc d))
  td q d c s := match q with | 0 => piece_storable m d c s (goal m d)

theorem vecSplit : (K (F := F)).VecSplit' (P m) 0 := by
  intro d c
  show pieces m d c (m (oLoc d)) ⊢ |={Set.univ}=> iprop(pieces m d c (m (oLoc d)) ∗ (pieces m d c (goal m d) -∗ pieces m d c (goal m d)))
  iintro H; imodintro
  isplitl [H]; · iexact H
  iintro H; iexact H

/-! ## The tiles' obligation -/

theorem defs₀_vector (c : Fin τ.nSC) (s : Fin τ.nSub) :
    defs₀ (F := F) (.scVector c s) 0 ()
      = SparseCore.onTile hcore0 hsub0 (fun c s => cc0__sc_body (tileAt c s) xV (Memref.isWhole_whole _) iV (Memref.isWhole_whole _)
          mV (Memref.isWhole_whole _) sV (Memref.isWhole_whole _) oV (Memref.isWhole_whole _) b0 (Memref.isWhole_whole _) b1 (Memref.isWhole_whole _)
          b2 (Memref.isWhole_whole _) b3 (Memref.isWhole_whole _) iT (Memref.isWhole_whole _) mT (Memref.isWhole_whole _) sT (Memref.isWhole_whole _)
          cc0_scratch7 cc0_scratch8 cc0_scratch9 cc0_scratch10 cc0_scratch11 cc0_scratch12 cc0_scratch13 cc0_scratch14
          cc0_scoped0 cc0_scoped1 cc0_scoped2) ⟨⟩ c s := rfl

theorem obl_pre {A B C E G : sProp 𝕄} : iprop(A ∗ emp ∗ B ∗ C ∗ E ∗ G) ⊢ iprop(A ∗ B ∗ C ∗ E ∗ G) := by
  iintro ⟨HA, -, H⟩
  isplitl [HA]; · iexact HA
  iexact H

theorem obl_post {d : Dev nD} {L : grid0.Coords} {A B C : sProp 𝕄} {O : CellTallies nD τ sig (HIx 1)} {W : Waits sig (HIx 1)} {q : Fin 1} :
    iprop(A ∗ B ∗ C ∗ owing d L O W)
      ⊢ iprop(A ∗ B ∗ C ∗ ∃ W', ⌜∀ p ∈ W', p ∈ W ∨ p.2 = none ∨ p.2 = some q⌝ ∗ owes (thr d L) O W') := by
  unfold owing
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  iexact HO

theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact obl_pre.trans ((tile_body d (tileAt ⟨_, hc.1⟩ ⟨_, hc.2⟩) (part c i) (m (xLoc d)) (m (oLoc d)) (m (iLoc d)) (m (mLoc d)) (m (sLoc d)) O W facts hO).trans
    (wp_mono frame _ _ fun _ => obl_post))

/-! ## The launch's element -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## `@main` on the TensorCore -/

theorem unscopedBufs_eq (d : Dev nD) (W : (b : Ref sig .tc) → Buf (Elt F) ((d.tc : Thread nD τ).loc b)) :
    (unscopedBufs d W : sProp 𝕄) = iprop((xLoc d ↦{fullShare} W main_arg0) ∗ (iLoc d ↦{fullShare} W main_arg1) ∗ (mLoc d ↦{fullShare} W main_arg2)
      ∗ (sLoc d ↦{fullShare} W main_arg3) ∗ oLoc d ↦{fullShare} W main_v0) := by
  unfold unscopedBufs
  rw [show (Finset.univ.filter fun b : Ref sig .tc => ¬ b.isScoped) = {main_arg0, main_arg1, main_arg2, main_arg3, main_v0} by decide,
    SparseCore.bigSep_insert' (by decide), SparseCore.bigSep_insert' (by decide), SparseCore.bigSep_insert' (by decide),
    SparseCore.bigSep_insert' (by decide), bigSep_singleton]

theorem st0_eq (d : Dev nD) : (bigSep Finset.univ fun c : Fin ((K (F := F)).nCore 0) => (P m).st 0 d c) = arrays m d (m (oLoc d)) :=
  (arrays_deal m d (m (oLoc d))).symm
theorem dn0_eq (d : Dev nD) : (bigSep Finset.univ fun c : Fin ((K (F := F)).nCore 0) => (P m).dn 0 d c) = arrays m d (goal m d) :=
  (arrays_deal m d (goal m d)).symm

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ arrays m d (goal m d) ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Hi, Hm, Hs, Ho⟩, Hts, -⟩, -⟩
  iapply ((K (F := F)).wp_run (D (F := F)) 𝒱 (EH := EH) (P := P m) κ d 0) $$ [Hst Hx Hi Hm Hs Ho Hb Hts]
  isplitr; · iexact Hctx
  isplitl [Hst]; · iexact Hst
  isplitl [Hx Hi Hm Hs Ho]
  · rw [st0_eq]; unfold arrays
    isplitl [Hx]; · iexact Hx
    isplitl [Ho]; · iexact Ho
    isplitl [Hi]; · iexact Hi
    isplitl [Hm]; · iexact Hm
    iexact Hs
  iintro ⟨Hst, Hdn⟩
  ihave Hdn' := (Entails.of_eq (dn0_eq m d)) $$ Hdn
  imodintro
  isplitl [Hst]; · iexact Hst
  isplitl [Hdn']; · iexact Hdn'
  isplitl [Hb] <;> iassumption

/-! ## The final memory, and the run -/

/-- A memory with the arguments as launched and the result of them. -/
def fq (d : Dev nD) (s' : Phys nD τ sig (Elt F)) : Prop :=
  s'.mem.mem (oLoc d) = goal m d ∧ s'.mem.mem (xLoc d) = m (xLoc d) ∧ s'.mem.mem (iLoc d) = m (iLoc d)
    ∧ s'.mem.mem (mLoc d) = m (mLoc d) ∧ s'.mem.mem (sLoc d) = m (sLoc d)

/-- An array held whole is what the memory has there. -/
theorem read_whole (s' : Phys nD τ sig (Elt F)) (ℓ : Loc nD τ sig) (f : Buf (Elt F) ℓ) :
    iprop(SI s' ∗ (ℓ ↦{fullShare} f)) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%h, HSI, -⟩
  isplitr
  · ipureintro; exact funext fun i => h i (Finset.mem_univ i)
  iexact HSI

theorem hfin (d : Dev nD) (s' : Phys nD τ sig (Elt F)) : iprop(arrays m d (goal m d) ∗ SI s') ⊢ (⌜fq m d s'⌝ : sProp 𝕄) := by
  unfold arrays
  iintro ⟨⟨Hx, Ho, Hi, Hm, Hs⟩, HSI⟩
  ihave H := (read_whole s' (xLoc d) _) $$ [HSI Hx]
  · isplitl [HSI] <;> iassumption
  icases H with ⟨%hx, HSI⟩
  ihave H := (read_whole s' (oLoc d) _) $$ [HSI Ho]
  · isplitl [HSI] <;> iassumption
  icases H with ⟨%ho, HSI⟩
  ihave H := (read_whole s' (iLoc d) _) $$ [HSI Hi]
  · isplitl [HSI] <;> iassumption
  icases H with ⟨%hi, HSI⟩
  ihave H := (read_whole s' (mLoc d) _) $$ [HSI Hm]
  · isplitl [HSI] <;> iassumption
  icases H with ⟨%hm, HSI⟩
  ihave H := (read_whole s' (sLoc d) _) $$ [HSI Hs]
  · isplitl [HSI] <;> iassumption
  icases H with ⟨%hs, -⟩
  ipureintro; exact ⟨ho, hx, hi, hm, hs⟩

/-- What the run leaves. -/
def QC : PUnit × MemSt nD τ sig (Elt F) → Prop := fun r =>
  (∀ d : Dev nD, r.2.mem (oLoc d) = goal m d ∧ r.2.mem (xLoc d) = m (xLoc d) ∧ r.2.mem (iLoc d) = m (iLoc d)
    ∧ r.2.mem (mLoc d) = m (mLoc d) ∧ r.2.mem (sLoc d) = m (sLoc d)) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (fun d => arrays m d (goal m d)) (u₀ (F := F)) (sep_elim_left.trans (hu₀ m)) (hmain m ρ) (fq m) (hfin m) (QC m)
    (fun _ h hz => ⟨h, hz⟩)

end Launch

end Cert.Proof.Norm

end
-- ==== Proof.Reference.lean ====
/-
  The reference's result, read at an element. When the index array holds `0, 1, …, 63`, taking the columns it names and scattering the normalised columns back to where they came from leaves every
  column past the first 64 as it was and puts `(x - means) / stds` in the first 64: `taken_scattered`. The reference's own operations are each read at one element below, in the order they run.
-/
module

public import proofs.«01_k».proof.Proof.Launch
public import proofs.«01_k».proof.Proof.Gen.ReferenceIdeal
public import Idealize.ShloMosaic.Lib.Routing.OpsSet
public import Idealize.ShloMosaic.Lib.Routing.OpsPair
public import Idealize.ShloMosaic.Lib.StableHlo.Predicate
public import Idealize.ShloMosaic.Lib.ValueIdxCore

@[expose] public section

noncomputable section

namespace Cert.Proof.Norm.Ref

open Idealize.ShloMosaic Idealize.ShloMosaic.StableHlo.Predicate Cert.ReferenceIdeal Cert.ReferenceIdeal.Facts₀ Cert.ReferenceIdeal.Facts

/-! ## A reduction by `and` -/

/-- An `and` over bits that are all one is one. -/
theorem all_of_ones {s t u : Shape} {axes : List (Fin s.rank)} (x : IVec s 1) (init : IVec u 1) (h : s.ReducesTo axes t) (hu : 0 < u.numel) (j : t.Idx)
    (hx : ∀ i, x i = 1#1) (hi : ∀ i, init i = 1#1) : Host.reduce IntOp.andi x init h hu j = 1#1 := by
  rw [Host.reduce_eq_foldl, hi]
  refine List.foldl_fixed' (fun b => ?_) _
  rw [hx]
  rfl

/-- An `and` down to one bit that is one is over bits that are all one. -/
theorem ones_of_all {s t u : Shape} {axes : List (Fin s.rank)} (x : IVec s 1) (init : IVec u 1) (h : s.ReducesTo axes t) (hu : 0 < u.numel) (j : t.Idx)
    (hj : Host.reduce IntOp.andi x init h hu j = 1#1) (i : s.Idx) (hd : h.drop i = j) : x i = 1#1 := by
  rw [Host.reduce_eq_fold] at hj
  have hm : i ∈ Finset.univ.filter (fun i => h.drop i = j) := Finset.mem_filter.2 ⟨Finset.mem_univ _, hd⟩
  rw [← Finset.insert_erase hm, Finset.fold_insert (Finset.notMem_erase _ _)] at hj
  revert hj
  generalize Finset.fold IntOp.andi _ x _ = b
  generalize x i = a
  revert a b
  decide

/-! ## The column indices -/

/-- Row `j 0` of a table over the 64 positions. -/
def row (j : S64x1.Idx) : S64.Idx := fun | ⟨0, _⟩ => j 0

variable [Cert.ReferenceIdeal.Facts]

/-- The index array with negative entries wrapped by 512, one entry a row: what the take and the scatter read their columns from. -/
abbrev cols (I : IVec S64 32) : IVec S64x1 32 :=
  broadcastInDim S64x1 ![0] bcast_S64_S64x1_0
    (select (cmpi .slt I (broadcastInDim S64 ![] bcast_S_S64 (constantI S_ 32 0#32))) (addi I (broadcastInDim S64 ![] bcast_S_S64 (constantI S_ 32 512#32))) I)

variable {I : IVec S64 32} (hI : ∀ k : S64.Idx, I k = BitVec.ofNat 32 (k 0).val)

include hI

theorem cols_apply (j : S64x1.Idx) : cols I j = BitVec.ofNat 32 (j 0).val := by
  have e : cols I j = Scalar.select (IntOp.cmpi .slt (I (row j)) 0#32) (IntOp.addi (I (row j)) 512#32) (I (row j)) := by
    have q : (fun a => if h1 : S64.size a = 1 then ⟨0, by omega⟩ else ⟨(j ((![0] : Fin 1 → Fin 2) a)).val, by
        have := (j 0).isLt; match a with | ⟨0, _⟩ => exact this⟩ : S64.Idx) = row j := by
      funext a
      match a with
      | ⟨0, _⟩ => rfl
    show (select _ _ _ : IVec S64 32) _ = _
    unfold select
    rw [← q]
    rfl
  have hj : (j 0).val < 64 := (j 0).isLt
  rw [e, Routing.wrap_of_lt _ _ (by rw [hI]; show (BitVec.ofNat 32 (j 0).val).toNat < _; rw [BitVec.toNat_ofNat]; omega), hI]
  rfl

theorem cols_toInt (j : S64x1.Idx) : (cols I j).toInt = ((j 0).val : Int) := by
  have hj : (j 0).val < 64 := (j 0).isLt
  rw [cols_apply hI, toInt_ofNat_small _ (by omega)]

/-- Every index lies in the array's 512 columns: the take's range test passes everywhere. -/
theorem in_range (k : S64.Idx) :
    Host.reduce IntOp.andi
      (andi (cmpi .sge (cols I) (broadcastInDim S64x1 ![] bcast_S_S64x1 (constantI S_ 32 0#32)))
        (cmpi .sle (cols I) (broadcastInDim S64x1 ![0, 1] bcast_S1x1_S64x1_0_1 (broadcastInDim S1x1 ![1] bcast_S1_S1x1_1 (constantI S1 32 511#32)))))
      (constantI S_ 1 1#1) reducesTo_S64x1_S64_d1 h_S_ k = 1#1 := by
  refine all_of_ones _ _ _ _ _ (fun i => ?_) (fun _ => rfl)
  have hi : (i 0).val < 64 := (i 0).isLt
  have hn : (cols I i).toNat = (i 0).val := by rw [cols_apply hI, BitVec.toNat_ofNat]; omega
  have h0 : IntOp.cmpi .sge (cols I i) 0#32 = 1#1 := (sge_iff_toNat (by omega) (by decide)).2 (by rw [hn]; simp)
  have h1 : IntOp.cmpi .sle (cols I i) 511#32 = 1#1 := (sle_iff_toNat (by omega) (by decide)).2 (by rw [hn]; simp; omega)
  show IntOp.andi (IntOp.cmpi .sge (cols I i) 0#32) (IntOp.cmpi .sle (cols I i) 511#32) = 1#1
  rw [h0, h1]
  rfl

/-! ## The take -/

/-- Entry `(r, c)` of the array, at a column `c` of the first 64. -/
def wide (j : S65536x64.Idx) : S65536x512.Idx := fun
  | ⟨0, _⟩ => j 0
  | ⟨1, _⟩ => ⟨(j 1).val, Nat.lt_of_lt_of_le (j 1).isLt (by decide : (64 : Nat) ≤ 512)⟩

theorem take_apply {α : Type} (x : S65536x512.Idx → α) (j : S65536x64.Idx) :
    Host.gather gather_S65536x512_S64x1_S65536x64_0_1_n_n_1_1_655361 x (cols I) j = x (wide j) := by
  unfold Host.gather
  congr 1
  funext a
  refine Fin.ext ?_
  show GatherDims.start _ j (cols I) a + GatherDims.batchCoord _ j a + GatherDims.offCoord _ j a = _
  rw [GatherDims.batchCoord_eq_zero _ _ _ List.not_mem_nil]
  have hj : (j 1).val < 64 := (j 1).isLt
  match a with
  | ⟨0, _⟩ =>
    have hs : GatherDims.start gather_S65536x512_S64x1_S65536x64_0_1_n_n_1_1_655361 j (cols I) (0 : Fin 2) = 0 := by
      unfold GatherDims.start
      rw [dif_neg (by decide)]
    have ho : GatherDims.offCoord gather_S65536x512_S64x1_S65536x64_0_1_n_n_1_1_655361 j (0 : Fin 2) = (j 0).val := by
      unfold GatherDims.offCoord
      rw [dif_pos (by decide)]
      rfl
    show GatherDims.start gather_S65536x512_S64x1_S65536x64_0_1_n_n_1_1_655361 j (cols I) (0 : Fin 2) + 0
      + GatherDims.offCoord gather_S65536x512_S64x1_S65536x64_0_1_n_n_1_1_655361 j (0 : Fin 2) = (j 0).val
    rw [hs, ho]
    omega
  | ⟨1, _⟩ =>
    have hs : GatherDims.start gather_S65536x512_S64x1_S65536x64_0_1_n_n_1_1_655361 j (cols I) (1 : Fin 2) = (j 1).val := by
      unfold GatherDims.start
      rw [dif_pos (by decide), cols_toInt hI]
      show min ((((j 1).val : Nat) : Int)).toNat (512 - 1) = (j 1).val
      omega
    have ho : GatherDims.offCoord gather_S65536x512_S64x1_S65536x64_0_1_n_n_1_1_655361 j (1 : Fin 2) = 0 :=
      GatherDims.offCoord_eq_zero _ _ _ (by decide)
    show GatherDims.start gather_S65536x512_S64x1_S65536x64_0_1_n_n_1_1_655361 j (cols I) (1 : Fin 2) + 0
      + GatherDims.offCoord gather_S65536x512_S64x1_S65536x64_0_1_n_n_1_1_655361 j (1 : Fin 2) = (j 1).val
    rw [hs, ho]
    omega

/-! ## The scatter -/

/-- Update `(r, c)` lands at entry `(r, c)`. -/
theorem lands (k : S65536x64.Idx) (i : S65536x512.Idx) :
    ScatterDims.resultIdx? scatter_S65536x512_S64x1_S65536x64_0_1_1_1 k (cols I) = some i ↔ wide k = i := by
  have s0 : ScatterDims.start scatter_S65536x512_S64x1_S65536x64_0_1_1_1 k (cols I) (0 : Fin 2) = 0 := by
    unfold ScatterDims.start
    rw [dif_neg (by decide)]
  have w0 : ScatterDims.window scatter_S65536x512_S64x1_S65536x64_0_1_1_1 k (0 : Fin 2) = (k 0).val := by
    unfold ScatterDims.window
    rw [dif_pos (by decide)]
    rfl
  have s1 : ScatterDims.start scatter_S65536x512_S64x1_S65536x64_0_1_1_1 k (cols I) (1 : Fin 2) = ((k 1).val : Int) := by
    unfold ScatterDims.start
    rw [dif_pos (by decide), cols_toInt hI]
    rfl
  have w1 : ScatterDims.window scatter_S65536x512_S64x1_S65536x64_0_1_1_1 k (1 : Fin 2) = 0 := by
    unfold ScatterDims.window
    rw [dif_neg (by decide)]
  rw [Routing.resultIdx?_eq_some]
  constructor
  · intro h
    have h0 := h (0 : Fin 2)
    have h1 := h (1 : Fin 2)
    rw [s0, w0] at h0
    rw [s1, w1] at h1
    funext a
    refine Fin.ext ?_
    match a with
    | ⟨0, _⟩ => show (k 0).val = (i 0).val; omega
    | ⟨1, _⟩ => show (k 1).val = (i 1).val; omega
  · rintro rfl a
    match a with
    | ⟨0, _⟩ =>
      show ScatterDims.start scatter_S65536x512_S64x1_S65536x64_0_1_1_1 k (cols I) (0 : Fin 2)
        + (ScatterDims.window scatter_S65536x512_S64x1_S65536x64_0_1_1_1 k (0 : Fin 2) : Int) = ((k 0).val : Int)
      rw [s0, w0]
      omega
    | ⟨1, _⟩ =>
      show ScatterDims.start scatter_S65536x512_S64x1_S65536x64_0_1_1_1 k (cols I) (1 : Fin 2)
        + (ScatterDims.window scatter_S65536x512_S64x1_S65536x64_0_1_1_1 k (1 : Fin 2) : Int) = ((k 1).val : Int)
      rw [s1, w1]
      omega

/-- Entry `(r, c)` of the first 64 columns, of an entry of the array. -/
def narrow (i : S65536x512.Idx) (h : (i 1).val < 64) : S65536x64.Idx := fun
  | ⟨0, _⟩ => i 0
  | ⟨1, _⟩ => ⟨(i 1).val, h⟩

omit hI in
theorem wide_narrow (i : S65536x512.Idx) (h : (i 1).val < 64) : wide (narrow i h) = i := by
  funext a
  match a with
  | ⟨0, _⟩ => rfl
  | ⟨1, _⟩ => rfl

omit hI in
theorem narrow_wide (k : S65536x64.Idx) (h : ((wide k) 1).val < 64) : narrow (wide k) h = k := by
  funext a
  match a with
  | ⟨0, _⟩ => rfl
  | ⟨1, _⟩ => rfl

theorem scatter_apply {α : Type} (x : S65536x512.Idx → α) (u : S65536x64.Idx → α) (i : S65536x512.Idx) :
    Host.scatter scatter_S65536x512_S64x1_S65536x64_0_1_1_1 (fun _ b => b) x (cols I) u i = if h : (i 1).val < 64 then u (narrow i h) else x i := by
  by_cases h : (i 1).val < 64
  · rw [dif_pos h]
    refine Routing.scatter_set_hit _ _ _ _ _ _ (fun k hk => ?_) (narrow i h) ((lands hI _ _).2 (wide_narrow i h))
    obtain rfl := (lands hI _ _).1 hk
    rw [narrow_wide]
  · rw [dif_neg h]
    refine Routing.scatter_set_miss _ _ _ _ _ (fun k hk => h ?_)
    obtain rfl := (lands hI _ _).1 hk
    exact (k 1).isLt

omit hI in
/-- A table of one entry a column, spread over the rows. -/
theorem spread_apply {α : Type} (v : S64.Idx → α) (i : S65536x512.Idx) (h : (i 1).val < 64) :
    broadcastInDim S65536x64 ![0, 1] bcast_S1x64_S65536x64_0_1 (broadcastInDim S1x64 ![1] bcast_S64_S1x64_1 v) (narrow i h) = v (lane (i 1).val h) := by
  unfold broadcastInDim
  congr 1
  funext a
  match a with
  | ⟨0, _⟩ => rfl

omit hI in
/-- A row of ones, spread over the rows. -/
theorem spread_ones (v : IVec S64 1) (hv : ∀ k, v k = 1#1) (j : S65536x64.Idx) : broadcastInDim S65536x64 ![1] bcast_S64_S65536x64_1 v j = 1#1 := hv _

/-! ## The whole -/

/-- The array the reference returns, as its operations make it. -/
abbrev value {F : FTy → Type} [FloatOps F] (x : FVec F S65536x512 .f32) (I : IVec S64 32) (mu sd : FVec F S64 .f32) : FVec F S65536x512 .f32 :=
  Host.scatter scatter_S65536x512_S64x1_S65536x64_0_1_1_1 (fun _ b => b) x (cols I)
    (Host.divf
      (subf
        (select
          (broadcastInDim S65536x64 ![1] bcast_S64_S65536x64_1
            (Host.reduce IntOp.andi
              (andi (cmpi .sge (cols I) (broadcastInDim S64x1 ![] bcast_S_S64x1 (constantI S_ 32 0#32)))
                (cmpi .sle (cols I) (broadcastInDim S64x1 ![0, 1] bcast_S1x1_S64x1_0_1 (broadcastInDim S1x1 ![1] bcast_S1_S1x1_1 (constantI S1 32 511#32)))))
              (constantI S_ 1 1#1) reducesTo_S64x1_S64_d1 h_S_))
          (Host.gather gather_S65536x512_S64x1_S65536x64_0_1_n_n_1_1_655361 x (cols I))
          (broadcastInDim S65536x64 ![] bcast_S_S65536x64 (constant S_ .f32 0x7FC00000#32)))
        (broadcastInDim S65536x64 ![0, 1] bcast_S1x64_S65536x64_0_1 (broadcastInDim S1x64 ![1] bcast_S64_S1x64_1 mu)))
      (broadcastInDim S65536x64 ![0, 1] bcast_S1x64_S65536x64_0_1 (broadcastInDim S1x64 ![1] bcast_S64_S1x64_1 sd)))

/-- With the index array `0, 1, …, 63` the reference's array is `(x - means) / stds` in the first 64 columns and `x` in the others. -/
theorem taken_scattered {F : FTy → Type} [FloatOps F] (x : FVec F S65536x512 .f32) (mu sd : FVec F S64 .f32) (i : S65536x512.Idx) :
    value x I mu sd i = if h : (i 1).val < 64 then FloatOps.hostDivf (FloatOps.subf (x i) (mu (lane (i 1).val h))) (sd (lane (i 1).val h)) else x i := by
  unfold value
  rw [scatter_apply hI]
  by_cases h : (i 1).val < 64
  · rw [dif_pos h, dif_pos h]
    unfold Host.divf subf select
    beta_reduce
    rw [spread_apply mu, spread_apply sd, take_apply hI, wide_narrow]
    rw [spread_ones _ (in_range hI)]
    rfl
  · rw [dif_neg h, dif_neg h]

end Cert.Proof.Norm.Ref

end
-- ==== Proof.Equation.lean ====
/-
  The claims the certificate makes, one theorem each: the frames of the kernel at both arithmetics and of the reference, and that on the precondition the kernel's array and the reference's are one.
-/
module

public import proofs.«01_k».proof.Defs
public import proofs.«01_k».proof.Proof.Reference
public import proofs.«01_k».proof.Proof.Gen.Kernel
public import proofs.«01_k».proof.Proof.Gen.ReferenceIdeal.Run
public import proofs.«01_k».proof.Proof.Gen.Pre_first_columns
public import Idealize.ShloMosaic.Lib.Quiescent

@[expose] public section

noncomputable section

namespace Cert.Proof.Norm

open Idealize.ShloMosaic Idealize.SL.Sem

/-! ## The precondition, decoded -/

/-- Two bits whose `and` is one are one. -/
theorem and_one : ∀ a b : BitVec 1, IntOp.andi a b = 1#1 → a = 1#1 ∧ b = 1#1 := by decide

section Decoded

variable (x : FVec Ideal Cert.Pre_first_columns.S65536x512 .f32) (I : IVec Cert.Pre_first_columns.S64 32) (mu sd : FVec Ideal Cert.Pre_first_columns.S64 .f32)
  (h : Cert.Pre_first_columns.fn (F := Ideal) x I mu sd = fun _ => 1#1) (k : Cert.Pre_first_columns.S64.Idx)

include h

/-- The precondition holds only of an index array that is `0, 1, …, 63`. -/
theorem first_idx : I k = BitVec.ofNat 32 (k 0).val := by
  have h1 := (and_one _ _ (congrFun h (Shape.Idx.first Cert.Pre_first_columns.Facts.h_S_))).1
  have h2 := Ref.ones_of_all _ _ _ _ _ h1 k (by funext a; exact a.elim0)
  exact StableHlo.Predicate.cmpi_eq_iff.1 h2

/-- The precondition holds only of standard deviations none of which is zero. -/
theorem first_sd : sd k ≠ (0 : EReal) := by
  have h1 := (and_one _ _ (congrFun h (Shape.Idx.first Cert.Pre_first_columns.Facts.h_S_))).2
  have h2 := Ref.ones_of_all _ _ _ _ _ h1 k (by funext a; exact a.elim0)
  have h3 : Ideal.cmp .une (sd k) (Ideal.ofBits .f32 0x00000000#32) = 1#1 := h2
  have z : Ideal.ofBits .f32 0x00000000#32 = (0 : EReal) := by simp [Ideal.ofBits, Ideal.ieee]
  rw [z] at h3
  exact of_decide_eq_true ((StableHlo.Predicate.ofBool_eq_one_iff _).1 h3)

end Decoded

/-! ## The two arrays are one -/

/-- Times the reciprocal is over, off zero. -/
theorem mul_recip (a s : EReal) (hs : s ≠ 0) : a * Ideal.div (Ideal.ofBits .f32 0x3F800000#32) s = Ideal.div a s := by
  have o : Ideal.ofBits .f32 0x3F800000#32 = (1 : EReal) := by
    simp [Ideal.ofBits, Ideal.ieee, -EReal.coe_mul]
    norm_num
  rw [o]
  unfold Ideal.div
  rw [if_neg hs, if_neg hs, one_mul]

/-- The reference's array is the kernel's, when the indices are `0, 1, …, 63` and no standard deviation is zero. -/
theorem value_eq (x : FVec Ideal Cert.ReferenceIdeal.S65536x512 .f32) (I : IVec Cert.ReferenceIdeal.S64 32) (mu sd : FVec Ideal Cert.ReferenceIdeal.S64 .f32)
    (hI : ∀ k : Cert.ReferenceIdeal.S64.Idx, I k = BitVec.ofNat 32 (k 0).val) (hs : ∀ k, sd k ≠ (0 : EReal)) :
    Ref.value x I mu sd = result (F := Ideal) mu sd x := by
  funext i
  rw [Ref.taken_scattered hI]
  unfold result nrm
  by_cases h : (i 1).val < 64
  · rw [dif_pos h, dif_pos h]
    exact (mul_recip _ _ (hs _)).symm
  · rw [dif_neg h, dif_neg h]

/-- The reference's array at arguments equal to ones at which it is known. -/
theorem value_congr {x x' : FVec Ideal Cert.ReferenceIdeal.S65536x512 .f32} {I I' : IVec Cert.ReferenceIdeal.S64 32} {mu mu' sd sd' : FVec Ideal Cert.ReferenceIdeal.S64 .f32}
    (hx : x' = x) (hi : I' = I) (hm : mu' = mu) (hd : sd' = sd) {v : FVec Ideal Cert.ReferenceIdeal.S65536x512 .f32} (h : Ref.value x I mu sd = v) :
    Ref.value x' I' mu' sd' = v := by
  subst hx hi hm hd
  exact h

/-! ## The claims -/

/-- The kernel's frame at the bit-exact arithmetic. -/
theorem frame_kernel : Cert.quiescent_Kernel := fun m ρ _ =>
  (θ_run Cert.KernelIdeal.defs _ _).mono (fun _ h => ⟨fun c => (h.1 c).2, h.2⟩) (run_main (F := Bits) m ρ)

/-- The kernel's frame at the ideal arithmetic. -/
theorem frame_ideal : Cert.quiescent_KernelIdeal := fun m ρ _ =>
  (θ_run Cert.KernelIdeal.defs _ _).mono (fun _ h => ⟨fun c => (h.1 c).2, h.2⟩) (run_main (F := Ideal) m ρ)

/-- The same, of the memories that meet the precondition. -/
theorem frame_ideal_pre : Cert.quiescent_KernelIdeal_pre_first_columns := fun m ρ _ => frame_ideal m ρ trivial

/-- The reference's frame: no operation writes an argument, and the program declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same, of the memories that meet the precondition. -/
theorem frame_reference_pre : Cert.quiescent_ReferenceIdeal_pre_first_columns := fun m ρ _ => frame_reference m ρ trivial

/-- On the precondition the kernel and the reference end with one array. -/
theorem algebraic : Cert.algebraic_KernelIdeal_ReferenceIdeal_pre_first_columns := by
  intro m ρ m' ρ' hpre hagree
  refine ⟨goal (F := Ideal) m, (θ_run Cert.KernelIdeal.defs _ _).mono (fun _ h => h.1) (run_main (F := Ideal) m ρ), ?_⟩
  refine (θ_run Cert.ReferenceIdeal.defs _ _).mono (fun r h c => ⟨(h c).1.trans ?_, (h c).2⟩) (Cert.ReferenceIdeal.Value.run (F := Ideal) m' ρ')
  obtain ⟨hx, hi, hm, hd⟩ := hagree c
  exact value_congr hx hi hm hd (value_eq _ _ _ _ (first_idx _ _ _ _ (hpre c)) (first_sd _ _ _ _ (hpre c)))

end Cert.Proof.Norm

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_first_columns
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_first_columns.Gen.facts, by
  exact ⟨Norm.frame_kernel, Norm.frame_ideal, Norm.frame_ideal_pre, Norm.frame_reference, Norm.frame_reference_pre, trivial, Norm.algebraic⟩⟩

end Cert.Proof

end
